-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_experts_exist_KernelIdeal [hPre_experts_exist_KernelIdeal : Cert.Pre_experts_exist_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_experts_exist_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_exist_ReferenceIdeal [hPre_experts_exist_ReferenceIdeal : Cert.Pre_experts_exist_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_exist_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_experts_exist_KernelIdeal [hKernelIdeal : Cert.KernelIdeal.Facts] [hPre_experts_exist_KernelIdeal : Cert.Pre_experts_exist_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_experts_exist_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_experts_exist_ReferenceIdeal [hReferenceIdeal : Cert.ReferenceIdeal.Facts] [hPre_experts_exist_ReferenceIdeal : Cert.Pre_experts_exist_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_exist_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_experts_exist_KernelIdeal [hKernelIdeal : Cert.KernelIdeal.Facts] [hReferenceIdeal : Cert.ReferenceIdeal.Facts] [hPre_experts_exist_KernelIdeal : Cert.Pre_experts_exist_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_experts_exist_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_experts_exist_KernelIdeal : Cert.Pre_experts_exist_KernelIdeal.Facts) (hPre_experts_exist_ReferenceIdeal : Cert.Pre_experts_exist_ReferenceIdeal.Facts),
    quiescent_Kernel (hKernel := hKernel)
    ∧ quiescent_KernelIdeal (hKernelIdeal := hKernelIdeal)
    ∧ quiescent_KernelIdeal_pre_experts_exist_KernelIdeal (hKernelIdeal := hKernelIdeal) (hPre_experts_exist_KernelIdeal := hPre_experts_exist_KernelIdeal)
    ∧ quiescent_ReferenceIdeal (hReferenceIdeal := hReferenceIdeal)
    ∧ quiescent_ReferenceIdeal_pre_experts_exist_ReferenceIdeal (hReferenceIdeal := hReferenceIdeal) (hPre_experts_exist_ReferenceIdeal := hPre_experts_exist_ReferenceIdeal)
    ∧ preserves_Kernel_KernelIdeal
    ∧ algebraic_KernelIdeal_ReferenceIdeal_pre_experts_exist_KernelIdeal (hKernelIdeal := hKernelIdeal) (hReferenceIdeal := hReferenceIdeal) (hPre_experts_exist_KernelIdeal := hPre_experts_exist_KernelIdeal)
-- ==== Pre_experts_exist_KernelIdeal.lean ====
abbrev S2048x512 : Shape := ⟨2, ![2048, 512]⟩
abbrev S512x64 : Shape := ⟨2, ![512, 64]⟩
abbrev S2048x1 : Shape := ⟨2, ![2048, 1]⟩
abbrev S4x512x1024 : Shape := ⟨3, ![4, 512, 1024]⟩
abbrev S_ : Shape := ⟨0, ![]⟩

class Facts : Prop where
  bcast_S_S2048x1 : S_.BroadcastsInDim S2048x1 (![] : Fin 0 → Fin S2048x1.rank)
  reducesTo_S2048x1_S_d0_1 : S2048x1.ReducesTo [0, 1] S_
  h_S_ : 0 < S_.numel

variable [Facts]

def fn {F : FTy → Type} [FloatOps F] (main_arg0 : FVec F S2048x512 .bf16) (main_arg1 : FVec F S512x64 .bf16) (main_arg2 : IVec S2048x1 32) (main_arg3 : FVec F S4x512x1024 .bf16) : IVec S_ 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 64#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  let main_c_1 : IVec S_ 1 := constantI S_ 1 1#1
  let main_v5 : IVec S_ 1 := (fun x v => Host.reduce IntOp.andi x v reducesTo_S2048x1_S_d0_1 h_S_) main_v4 main_c_1
  main_v5
-- ==== Pre_experts_exist_ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S_ : Shape := ⟨0, ![]⟩

class Facts : Prop where
  bcast_S_S2048x1 : S_.BroadcastsInDim S2048x1 (![] : Fin 0 → Fin S2048x1.rank)
  reducesTo_S2048x1_S_d0_1 : S2048x1.ReducesTo [0, 1] S_
  h_S_ : 0 < S_.numel

variable [Facts]

def fn {F : FTy → Type} [FloatOps F] (main_arg0 : FVec F S2048x512 .bf16) (main_arg1 : FVec F S512x64 .bf16) (main_arg2 : IVec S2048x1 32) (main_arg3 : FVec F S64x512x1024 .bf16) : IVec S_ 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 64#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  let main_c_1 : IVec S_ 1 := constantI S_ 1 1#1
  let main_v5 : IVec S_ 1 := (fun x v => Host.reduce IntOp.andi x v reducesTo_S2048x1_S_d0_1 h_S_) main_v4 main_c_1
  main_v5
-- ==== Kernel.lean ====
abbrev S2048x512 : Shape := ⟨2, ![2048, 512]⟩
abbrev S512x64 : Shape := ⟨2, ![512, 64]⟩
abbrev S2048x1 : Shape := ⟨2, ![2048, 1]⟩
abbrev S4x512x1024 : Shape := ⟨3, ![4, 512, 1024]⟩
abbrev S2048x1024 : Shape := ⟨2, ![2048, 1024]⟩
abbrev S32 : Shape := ⟨1, ![32]⟩
abbrev S28 : Shape := ⟨1, ![28]⟩
abbrev S_ : Shape := ⟨0, ![]⟩
abbrev S128x1 : Shape := ⟨2, ![128, 1]⟩
abbrev S128x16 : Shape := ⟨2, ![128, 16]⟩
abbrev S16x1024 : Shape := ⟨2, ![16, 1024]⟩
abbrev S128x1024 : Shape := ⟨2, ![128, 1024]⟩
abbrev S1024 : Shape := ⟨1, ![1024]⟩
abbrev S1x1024 : Shape := ⟨2, ![1, 1024]⟩
abbrev S1x64 : Shape := ⟨2, ![1, 64]⟩
abbrev S16x64 : Shape := ⟨2, ![16, 64]⟩
abbrev S16x16 : Shape := ⟨2, ![16, 16]⟩
abbrev S128x128 : Shape := ⟨2, ![128, 128]⟩
abbrev S1024x16 : Shape := ⟨2, ![1024, 16]⟩
abbrev S2048x128 : Shape := ⟨2, ![2048, 128]⟩
abbrev S128x512 : Shape := ⟨2, ![128, 512]⟩
abbrev S32x512 : Shape := ⟨2, ![32, 512]⟩
abbrev S1x512x1024 : Shape := ⟨3, ![1, 512, 1024]⟩
abbrev S512x1024 : Shape := ⟨2, ![512, 1024]⟩
abbrev S32x1024 : Shape := ⟨2, ![32, 1024]⟩
abbrev S1 : Shape := ⟨1, ![1]⟩
abbrev S2048x2048 : Shape := ⟨2, ![2048, 2048]⟩

abbrev nBuf : Space → Nat
  | .hbm => 5
  | .vmem => 5
  | .smem => 0
  | _ => 0

abbrev bufTy : (tb : Table) → Fin (tcTables nBuf tb) → BufTy
  | .hbm, ⟨0, _⟩ => ⟨S2048x512, .bf16⟩
  | .hbm, ⟨1, _⟩ => ⟨S512x64, .bf16⟩
  | .hbm, ⟨2, _⟩ => ⟨S2048x1, .i32⟩
  | .hbm, ⟨3, _⟩ => ⟨S4x512x1024, .bf16⟩
  | .hbm, ⟨4, _⟩ => ⟨S2048x1024, .bf16⟩
  | .local _ .vmem, ⟨0, _⟩ => ⟨S2048x512, .bf16⟩
  | .local _ .vmem, ⟨1, _⟩ => ⟨S2048x1, .i32⟩
  | .local _ .vmem, ⟨2, _⟩ => ⟨S4x512x1024, .bf16⟩
  | .local _ .vmem, ⟨3, _⟩ => ⟨S2048x1024, .bf16⟩
  | .local _ .vmem, ⟨4, _⟩ => ⟨S2048x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 124 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | _ => false

abbrev sig : RefSig :=
  (ofTc nBuf bufTy 1 124 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_49 : BitVec 32 := 1#32
  let v236 : BitVec 32 := Scalar.muli v7 c1_i32_49
  let v237 : BitVec 32 := Scalar.addi c0_i32_50 v236
  v237.toNat
def k0_dev4 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_56 : BitVec 32 := 1#32
  let v244 : BitVec 32 := Scalar.muli v5 c1_i32_56
  let v245 : BitVec 32 := Scalar.addi c0_i32_57 v244
  v245.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_68 : BitVec 32 := 1#32
  let v260 : BitVec 32 := Scalar.muli v7 c1_i32_68
  let v261 : BitVec 32 := Scalar.addi c0_i32_69 v260
  v261.toNat
def k0_dev6 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_75 : BitVec 32 := 1#32
  let v268 : BitVec 32 := Scalar.muli v5 c1_i32_75
  let v269 : BitVec 32 := Scalar.addi c0_i32_76 v268
  v269.toNat
def k0_dev7 (d0 : Dev nD) : Nat :=
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_86 : BitVec 32 := 1#32
  let v284 : BitVec 32 := Scalar.muli v7 c1_i32_86
  let v285 : BitVec 32 := Scalar.addi c0_i32_87 v284
  v285.toNat
def k0_dev8 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_93 : BitVec 32 := 1#32
  let v292 : BitVec 32 := Scalar.muli v5 c1_i32_93
  let v293 : BitVec 32 := Scalar.addi c0_i32_94 v292
  v293.toNat
def k0_dev9 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_103 : BitVec 32 := 1#32
  let v308 : BitVec 32 := Scalar.muli v7 c1_i32_103
  let v309 : BitVec 32 := Scalar.addi c0_i32_104 v308
  v309.toNat
def k0_dev10 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_109 : BitVec 32 := 1#32
  let v316 : BitVec 32 := Scalar.muli v5 c1_i32_109
  let v317 : BitVec 32 := Scalar.addi c0_i32_110 v316
  v317.toNat
def k0_dev11 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_124 : BitVec 32 := 1#32
  let v336 : BitVec 32 := Scalar.muli v7 c1_i32_124
  let v337 : BitVec 32 := Scalar.addi c0_i32_125 v336
  v337.toNat
def k0_dev12 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_139 : BitVec 32 := 1#32
  let v350 : BitVec 32 := Scalar.muli v5 c1_i32_139
  let v351 : BitVec 32 := Scalar.addi c0_i32_140 v350
  v351.toNat
def k0_dev13 (d0 : Dev nD) : Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_153 : BitVec 32 := 1#32
  let v364 : BitVec 32 := Scalar.muli v7 c1_i32_153
  let v365 : BitVec 32 := Scalar.addi c0_i32_154 v364
  v365.toNat
def k0_dev14 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_168 : BitVec 32 := 1#32
  let v378 : BitVec 32 := Scalar.muli v5 c1_i32_168
  let v379 : BitVec 32 := Scalar.addi c0_i32_169 v378
  v379.toNat
def k0_dev15 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_182 : BitVec 32 := 1#32
  let v392 : BitVec 32 := Scalar.muli v7 c1_i32_182
  let v393 : BitVec 32 := Scalar.addi c0_i32_183 v392
  v393.toNat
def k0_dev16 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_197 : BitVec 32 := 1#32
  let v406 : BitVec 32 := Scalar.muli v5 c1_i32_197
  let v407 : BitVec 32 := Scalar.addi c0_i32_198 v406
  v407.toNat
def k0_dev17 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_211 : BitVec 32 := 1#32
  let v420 : BitVec 32 := Scalar.muli v7 c1_i32_211
  let v421 : BitVec 32 := Scalar.addi c0_i32_212 v420
  v421.toNat
def k0_dev18 (d0 : Dev nD) : Nat :=
  let c0_i32_227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_226 : BitVec 32 := 1#32
  let v434 : BitVec 32 := Scalar.muli v5 c1_i32_226
  let v435 : BitVec 32 := Scalar.addi c0_i32_227 v434
  v435.toNat
def k0_dev19 (d0 : Dev nD) : Nat :=
  let c0_i32_241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_240 : BitVec 32 := 1#32
  let v448 : BitVec 32 := Scalar.muli v7 c1_i32_240
  let v449 : BitVec 32 := Scalar.addi c0_i32_241 v448
  v449.toNat
def k0_dev20 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_255 : BitVec 32 := 1#32
  let v462 : BitVec 32 := Scalar.muli v5 c1_i32_255
  let v463 : BitVec 32 := Scalar.addi c0_i32_256 v462
  v463.toNat
def k0_dev21 (d0 : Dev nD) : Nat :=
  let c0_i32_270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_269 : BitVec 32 := 1#32
  let v476 : BitVec 32 := Scalar.muli v7 c1_i32_269
  let v477 : BitVec 32 := Scalar.addi c0_i32_270 v476
  v477.toNat
def k0_dev22 (d0 : Dev nD) : Nat :=
  let c0_i32_285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_284 : BitVec 32 := 1#32
  let v490 : BitVec 32 := Scalar.muli v5 c1_i32_284
  let v491 : BitVec 32 := Scalar.addi c0_i32_285 v490
  v491.toNat
def k0_dev23 (d0 : Dev nD) : Nat :=
  let c0_i32_299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_298 : BitVec 32 := 1#32
  let v504 : BitVec 32 := Scalar.muli v7 c1_i32_298
  let v505 : BitVec 32 := Scalar.addi c0_i32_299 v504
  v505.toNat
def k0_dev24 (d0 : Dev nD) : Nat :=
  let c0_i32_314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_313 : BitVec 32 := 1#32
  let v518 : BitVec 32 := Scalar.muli v5 c1_i32_313
  let v519 : BitVec 32 := Scalar.addi c0_i32_314 v518
  v519.toNat
def k0_dev25 (d0 : Dev nD) : Nat :=
  let c0_i32_328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_327 : BitVec 32 := 1#32
  let v532 : BitVec 32 := Scalar.muli v7 c1_i32_327
  let v533 : BitVec 32 := Scalar.addi c0_i32_328 v532
  v533.toNat
def k0_dev26 (d0 : Dev nD) : Nat :=
  let c0_i32_343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_342 : BitVec 32 := 1#32
  let v546 : BitVec 32 := Scalar.muli v5 c1_i32_342
  let v547 : BitVec 32 := Scalar.addi c0_i32_343 v546
  v547.toNat
def k0_dev27 (d0 : Dev nD) : Nat :=
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_356 : BitVec 32 := 1#32
  let v560 : BitVec 32 := Scalar.muli v7 c1_i32_356
  let v561 : BitVec 32 := Scalar.addi c0_i32_357 v560
  v561.toNat
def k0_dev28 (d0 : Dev nD) : Nat :=
  let c0_i32_372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_371 : BitVec 32 := 1#32
  let v574 : BitVec 32 := Scalar.muli v5 c1_i32_371
  let v575 : BitVec 32 := Scalar.addi c0_i32_372 v574
  v575.toNat
def k0_dev29 (d0 : Dev nD) : Nat :=
  let c0_i32_386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_385 : BitVec 32 := 1#32
  let v588 : BitVec 32 := Scalar.muli v7 c1_i32_385
  let v589 : BitVec 32 := Scalar.addi c0_i32_386 v588
  v589.toNat
def k0_dev30 (d0 : Dev nD) : Nat :=
  let c0_i32_401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_400 : BitVec 32 := 1#32
  let v602 : BitVec 32 := Scalar.muli v5 c1_i32_400
  let v603 : BitVec 32 := Scalar.addi c0_i32_401 v602
  v603.toNat
def k0_dev31 (d0 : Dev nD) : Nat :=
  let c0_i32_415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_414 : BitVec 32 := 1#32
  let v616 : BitVec 32 := Scalar.muli v7 c1_i32_414
  let v617 : BitVec 32 := Scalar.addi c0_i32_415 v616
  v617.toNat
def k0_dev32 (d0 : Dev nD) : Nat :=
  let c0_i32_430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_429 : BitVec 32 := 1#32
  let v630 : BitVec 32 := Scalar.muli v5 c1_i32_429
  let v631 : BitVec 32 := Scalar.addi c0_i32_430 v630
  v631.toNat
def k0_dev33 (d0 : Dev nD) : Nat :=
  let c0_i32_444 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_443 : BitVec 32 := 1#32
  let v644 : BitVec 32 := Scalar.muli v7 c1_i32_443
  let v645 : BitVec 32 := Scalar.addi c0_i32_444 v644
  v645.toNat
def k0_dev34 (d0 : Dev nD) : Nat :=
  let c0_i32_459 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_458 : BitVec 32 := 1#32
  let v658 : BitVec 32 := Scalar.muli v5 c1_i32_458
  let v659 : BitVec 32 := Scalar.addi c0_i32_459 v658
  v659.toNat
def k0_dev35 (d0 : Dev nD) : Nat :=
  let c0_i32_474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_473 : BitVec 32 := 1#32
  let v672 : BitVec 32 := Scalar.muli v7 c1_i32_473
  let v673 : BitVec 32 := Scalar.addi c0_i32_474 v672
  v673.toNat
def k0_dev36 (d0 : Dev nD) : Nat :=
  let c0_i32_489 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_488 : BitVec 32 := 1#32
  let v686 : BitVec 32 := Scalar.muli v5 c1_i32_488
  let v687 : BitVec 32 := Scalar.addi c0_i32_489 v686
  v687.toNat
def k0_dev37 (d0 : Dev nD) : Nat :=
  let c0_i32_503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_502 : BitVec 32 := 1#32
  let v700 : BitVec 32 := Scalar.muli v7 c1_i32_502
  let v701 : BitVec 32 := Scalar.addi c0_i32_503 v700
  v701.toNat
def k0_dev38 (d0 : Dev nD) : Nat :=
  let c0_i32_518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_517 : BitVec 32 := 1#32
  let v714 : BitVec 32 := Scalar.muli v5 c1_i32_517
  let v715 : BitVec 32 := Scalar.addi c0_i32_518 v714
  v715.toNat
def k0_dev39 (d0 : Dev nD) : Nat :=
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_531 : BitVec 32 := 1#32
  let v728 : BitVec 32 := Scalar.muli v7 c1_i32_531
  let v729 : BitVec 32 := Scalar.addi c0_i32_532 v728
  v729.toNat
def k0_dev40 (d0 : Dev nD) : Nat :=
  let c0_i32_547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_546 : BitVec 32 := 1#32
  let v742 : BitVec 32 := Scalar.muli v5 c1_i32_546
  let v743 : BitVec 32 := Scalar.addi c0_i32_547 v742
  v743.toNat
def k0_dev41 (d0 : Dev nD) : Nat :=
  let c0_i32_561 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_560 : BitVec 32 := 1#32
  let v756 : BitVec 32 := Scalar.muli v7 c1_i32_560
  let v757 : BitVec 32 := Scalar.addi c0_i32_561 v756
  v757.toNat
def k0_dev42 (d0 : Dev nD) : Nat :=
  let c0_i32_576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_575 : BitVec 32 := 1#32
  let v770 : BitVec 32 := Scalar.muli v5 c1_i32_575
  let v771 : BitVec 32 := Scalar.addi c0_i32_576 v770
  v771.toNat
def k0_dev43 (d0 : Dev nD) : Nat :=
  let c0_i32_590 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_589 : BitVec 32 := 1#32
  let v784 : BitVec 32 := Scalar.muli v7 c1_i32_589
  let v785 : BitVec 32 := Scalar.addi c0_i32_590 v784
  v785.toNat
def k0_dev44 (d0 : Dev nD) : Nat :=
  let c0_i32_605 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_604 : BitVec 32 := 1#32
  let v798 : BitVec 32 := Scalar.muli v5 c1_i32_604
  let v799 : BitVec 32 := Scalar.addi c0_i32_605 v798
  v799.toNat
def k0_dev45 (d0 : Dev nD) : Nat :=
  let c0_i32_619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_618 : BitVec 32 := 1#32
  let v812 : BitVec 32 := Scalar.muli v7 c1_i32_618
  let v813 : BitVec 32 := Scalar.addi c0_i32_619 v812
  v813.toNat
def k0_dev46 (d0 : Dev nD) : Nat :=
  let c0_i32_634 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_633 : BitVec 32 := 1#32
  let v826 : BitVec 32 := Scalar.muli v5 c1_i32_633
  let v827 : BitVec 32 := Scalar.addi c0_i32_634 v826
  v827.toNat
def k0_dev47 (d0 : Dev nD) : Nat :=
  let c0_i32_648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_647 : BitVec 32 := 1#32
  let v840 : BitVec 32 := Scalar.muli v7 c1_i32_647
  let v841 : BitVec 32 := Scalar.addi c0_i32_648 v840
  v841.toNat
def k0_dev48 (d0 : Dev nD) : Nat :=
  let c0_i32_663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_662 : BitVec 32 := 1#32
  let v854 : BitVec 32 := Scalar.muli v5 c1_i32_662
  let v855 : BitVec 32 := Scalar.addi c0_i32_663 v854
  v855.toNat
def k0_dev49 (d0 : Dev nD) : Nat :=
  let c0_i32_677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_676 : BitVec 32 := 1#32
  let v868 : BitVec 32 := Scalar.muli v7 c1_i32_676
  let v869 : BitVec 32 := Scalar.addi c0_i32_677 v868
  v869.toNat
def k0_dev50 (d0 : Dev nD) : Nat :=
  let c0_i32_692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_691 : BitVec 32 := 1#32
  let v882 : BitVec 32 := Scalar.muli v5 c1_i32_691
  let v883 : BitVec 32 := Scalar.addi c0_i32_692 v882
  v883.toNat
def k0_dev51 (d0 : Dev nD) : Nat :=
  let c0_i32_706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_705 : BitVec 32 := 1#32
  let v896 : BitVec 32 := Scalar.muli v7 c1_i32_705
  let v897 : BitVec 32 := Scalar.addi c0_i32_706 v896
  v897.toNat
def k0_dev52 (d0 : Dev nD) : Nat :=
  let c0_i32_721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_720 : BitVec 32 := 1#32
  let v910 : BitVec 32 := Scalar.muli v5 c1_i32_720
  let v911 : BitVec 32 := Scalar.addi c0_i32_721 v910
  v911.toNat
def k0_dev53 (d0 : Dev nD) : Nat :=
  let c0_i32_736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_735 : BitVec 32 := 1#32
  let v924 : BitVec 32 := Scalar.muli v7 c1_i32_735
  let v925 : BitVec 32 := Scalar.addi c0_i32_736 v924
  v925.toNat
def k0_dev54 (d0 : Dev nD) : Nat :=
  let c0_i32_751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_750 : BitVec 32 := 1#32
  let v938 : BitVec 32 := Scalar.muli v5 c1_i32_750
  let v939 : BitVec 32 := Scalar.addi c0_i32_751 v938
  v939.toNat
def k0_dev55 (d0 : Dev nD) : Nat :=
  let c0_i32_765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_764 : BitVec 32 := 1#32
  let v952 : BitVec 32 := Scalar.muli v7 c1_i32_764
  let v953 : BitVec 32 := Scalar.addi c0_i32_765 v952
  v953.toNat
def k0_dev56 (d0 : Dev nD) : Nat :=
  let c0_i32_780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_779 : BitVec 32 := 1#32
  let v966 : BitVec 32 := Scalar.muli v5 c1_i32_779
  let v967 : BitVec 32 := Scalar.addi c0_i32_780 v966
  v967.toNat
def k0_dev57 (d0 : Dev nD) : Nat :=
  let c0_i32_794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_793 : BitVec 32 := 1#32
  let v980 : BitVec 32 := Scalar.muli v7 c1_i32_793
  let v981 : BitVec 32 := Scalar.addi c0_i32_794 v980
  v981.toNat
def k0_dev58 (d0 : Dev nD) : Nat :=
  let c0_i32_809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_808 : BitVec 32 := 1#32
  let v994 : BitVec 32 := Scalar.muli v5 c1_i32_808
  let v995 : BitVec 32 := Scalar.addi c0_i32_809 v994
  v995.toNat
def k0_dev59 (d0 : Dev nD) : Nat :=
  let c0_i32_823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_822 : BitVec 32 := 1#32
  let v1008 : BitVec 32 := Scalar.muli v7 c1_i32_822
  let v1009 : BitVec 32 := Scalar.addi c0_i32_823 v1008
  v1009.toNat
def k0_dev60 (d0 : Dev nD) : Nat :=
  let c0_i32_845 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_844 : BitVec 32 := 1#32
  let v1028 : BitVec 32 := Scalar.muli v7 c1_i32_844
  let v1029 : BitVec 32 := Scalar.addi c0_i32_845 v1028
  v1029.toNat
def k0_dev61 (d0 : Dev nD) : Nat :=
  let c0_i32_867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_866 : BitVec 32 := 1#32
  let v1048 : BitVec 32 := Scalar.muli v7 c1_i32_866
  let v1049 : BitVec 32 := Scalar.addi c0_i32_867 v1048
  v1049.toNat
def k0_dev62 (d0 : Dev nD) : Nat :=
  let c0_i32_889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_888 : BitVec 32 := 1#32
  let v1068 : BitVec 32 := Scalar.muli v7 c1_i32_888
  let v1069 : BitVec 32 := Scalar.addi c0_i32_889 v1068
  v1069.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S512x64 : Shape := ⟨2, ![512, 64]⟩
abbrev S2048x1 : Shape := ⟨2, ![2048, 1]⟩
abbrev S64x512x1024 : Shape := ⟨3, ![64, 512, 1024]⟩
abbrev S2048 : Shape := ⟨1, ![2048]⟩
abbrev S1x2048 : Shape := ⟨2, ![1, 2048]⟩
abbrev S2048x2048 : Shape := ⟨2, ![2048, 2048]⟩
abbrev S_ : Shape := ⟨0, ![]⟩
abbrev S2048x512x1024 : Shape := ⟨3, ![2048, 512, 1024]⟩
abbrev S2048x1024 : Shape := ⟨2, ![2048, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x64, .bf16⟩
  | .hbm, ⟨2, _⟩ => ⟨S2048x1, .i32⟩
  | .hbm, ⟨3, _⟩ => ⟨S64x512x1024, .bf16⟩
  | .hbm, ⟨4, _⟩ => ⟨S2048, .i32⟩
  | .hbm, ⟨5, _⟩ => ⟨S2048, .i32⟩
  | .hbm, ⟨6, _⟩ => ⟨S1x2048, .i32⟩
  | .hbm, ⟨7, _⟩ => ⟨S2048x1, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S1x2048, .i32⟩
  | .hbm, ⟨12, _⟩ => ⟨S2048x1, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S2048x2048, .i1⟩
  | .hbm, ⟨17, _⟩ => ⟨S2048x2048, .i32⟩
  | .hbm, ⟨18, _⟩ => ⟨S_, .i32⟩
  | .hbm, ⟨19, _⟩ => ⟨S2048, .i32⟩
  | .hbm, ⟨20, _⟩ => ⟨S2048x512, .f32⟩
  | .hbm, ⟨21, _⟩ => ⟨S_, .i32⟩
  | .hbm, ⟨22, _⟩ => ⟨S2048, .i32⟩
  | .hbm, ⟨23, _⟩ => ⟨S2048, .i1⟩
  | .hbm, ⟨24, _⟩ => ⟨S_, .i32⟩
  | .hbm, ⟨25, _⟩ => ⟨S2048, .i32⟩
  | .hbm, ⟨26, _⟩ => ⟨S2048, .i32⟩
  | .hbm, ⟨27, _⟩ => ⟨S2048, .i32⟩
  | .hbm, ⟨28, _⟩ => ⟨S2048x1, .i32⟩
  | .hbm, ⟨29, _⟩ => ⟨S2048x512x1024, .bf16⟩
  | .hbm, ⟨30, _⟩ => ⟨S2048x512x1024, .f32⟩
  | .hbm, ⟨31, _⟩ => ⟨S2048x1024, .f32⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S2048x1, .i1⟩
  | .hbm, ⟨36, _⟩ => ⟨S_, .f32⟩
  | .hbm, ⟨37, _⟩ => ⟨S_, .f32⟩
  | .hbm, ⟨38, _⟩ => ⟨S2048x1024, .i1⟩
  | .hbm, ⟨39, _⟩ => ⟨S2048x1024, .f32⟩
  | .hbm, ⟨40, _⟩ => ⟨S2048x1024, .f32⟩
  | .hbm, ⟨41, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Proof.Values.lean ====
/-
What the devices compute, as named arrays: the rank of each token among those of its expert, the buffer
slot it is sent to, the rows a device gathers for its own four experts, the four products it sends round
the ring, and the whole communication buffer each device ends with.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen
open Idealize.ShloMosaic Idealize.ShloMosaic.TcCoe

variable {F : FTy → Type} [FloatOps F]

/-! ## Arrays that depend on the routing alone -/

/-- The sixteen blocks' one-hot totals, put side by side before the running sum over blocks. -/
def blockSums (ids : Vec F S2048x1 .i32) : FVec F S128x1024 .bf16 :=
  let i0 := iota .tc S16x1024 32 [0] iota_S16x1024_d0_w32
  let i1 := iota .tc S16x1024 32 [1] iota_S16x1024_d1_w32
  k0_pay20 (k0_pay5 (F := F) (k0_pay2 ids) i0 i1 64#32 k0_pay3 k0_pay4) (k0_pay6 (F := F) (k0_pay2 ids) i0 i1 64#32 k0_pay3 k0_pay4)
    (k0_pay7 (F := F) (k0_pay2 ids) i0 i1 64#32 k0_pay3 k0_pay4) (k0_pay8 (F := F) (k0_pay2 ids) i0 i1 64#32 k0_pay3 k0_pay4)
    (k0_pay9 (F := F) (k0_pay2 ids) i0 i1 64#32 k0_pay3 k0_pay4) (k0_pay10 (F := F) (k0_pay2 ids) i0 i1 64#32 k0_pay3 k0_pay4)
    (k0_pay11 (F := F) (k0_pay2 ids) i0 i1 64#32 k0_pay3 k0_pay4) (k0_pay12 (F := F) (k0_pay2 ids) i0 i1 64#32 k0_pay3 k0_pay4)
    (k0_pay13 (F := F) (k0_pay2 ids) i0 i1 64#32 k0_pay3 k0_pay4) (k0_pay14 (F := F) (k0_pay2 ids) i0 i1 64#32 k0_pay3 k0_pay4)
    (k0_pay15 (F := F) (k0_pay2 ids) i0 i1 64#32 k0_pay3 k0_pay4) (k0_pay16 (F := F) (k0_pay2 ids) i0 i1 64#32 k0_pay3 k0_pay4)
    (k0_pay17 (F := F) (k0_pay2 ids) i0 i1 64#32 k0_pay3 k0_pay4) (k0_pay18 (F := F) (k0_pay2 ids) i0 i1 64#32 k0_pay3 k0_pay4)
    (k0_pay19 (F := F) (k0_pay2 ids) i0 i1 64#32 k0_pay3 k0_pay4)

/-- Each token's rank among the tokens of its expert, as the kernel counts it. -/
def rank (ids : Vec F S2048x1 .i32) : IVec S2048x1 32 :=
  k0_pay23 (blockSums ids) (iota .tc S1024x16 32 [0] iota_S1024x16_d0_w32) 64#32 k0_pay21 k0_pay22
    (Scalar.extui (Scalar.cmpi .sgt 64#32 0#32)) (Scalar.cmpi .slt 64#32 0#32)

/-- Whether the rank is below the capacity. -/
def fits (ids : Vec F S2048x1 .i32) : IVec S2048x1 1 :=
  k0_pay24 (blockSums ids) (iota .tc S1024x16 32 [0] iota_S1024x16_d0_w32) 64#32 k0_pay21 k0_pay22
    (Scalar.extui (Scalar.cmpi .sgt 64#32 0#32)) (Scalar.cmpi .slt 64#32 0#32)

/-- The row of the communication buffer a token's product lies in, seen from the device numbered `me`; −1 for a dropped token. -/
def slot (me : BitVec 32) (ids : Vec F S2048x1 .i32) : IVec S2048x1 32 :=
  k0_pay27 me (k0_pay1 ids) (rank ids) (fits ids) 4#32 (k0_pay25 (k0_pay1 ids)) (k0_pay26 (k0_pay1 ids))
    (Scalar.extui (Scalar.cmpi .sgt 4#32 0#32)) (Scalar.extui (Scalar.cmpi .slt 4#32 0#32))

/-- The rows of `x` for the device's own 128 slots. -/
def picked (me : BitVec 32) (ids : Vec F S2048x1 .i32) (x : Vec F S2048x512 .bf16) : FVec F S128x512 .f32 :=
  k0_pay28 me (k0_pay1 ids) (rank ids) (fits ids) 4#32 (k0_pay25 (k0_pay1 ids)) (k0_pay26 (k0_pay1 ids))
    (Scalar.extui (Scalar.cmpi .sgt 4#32 0#32)) (Scalar.extui (Scalar.cmpi .slt 4#32 0#32)) x

/-- The weights of one of the device's own four experts. -/
def weights (w : Vec F S4x512x1024 .bf16) : ℕ → Vec F S1x512x1024 .bf16
  | 0 => (Memref.whole cc0_stg2_0 : Memref sig .tc .vmem S4x512x1024 .bf16).view.readAt (Elt F) (Rect.unit (s := S4x512x1024) ![0, 0, 0] S1x512x1024.size inb_S4x512x1024_S1x512x1024_0_0_0).toLoadRect w
  | 1 => (Memref.whole cc0_stg2_0 : Memref sig .tc .vmem S4x512x1024 .bf16).view.readAt (Elt F) (Rect.unit (s := S4x512x1024) ![1, 0, 0] S1x512x1024.size inb_S4x512x1024_S1x512x1024_1_0_0).toLoadRect w
  | 2 => (Memref.whole cc0_stg2_0 : Memref sig .tc .vmem S4x512x1024 .bf16).view.readAt (Elt F) (Rect.unit (s := S4x512x1024) ![2, 0, 0] S1x512x1024.size inb_S4x512x1024_S1x512x1024_2_0_0).toLoadRect w
  | _ => (Memref.whole cc0_stg2_0 : Memref sig .tc .vmem S4x512x1024 .bf16).view.readAt (Elt F) (Rect.unit (s := S4x512x1024) ![3, 0, 0] S1x512x1024.size inb_S4x512x1024_S1x512x1024_3_0_0).toLoadRect w

/-- The device's product for its own expert number `e`: 32 rows. -/
def product (me : BitVec 32) (ids : Vec F S2048x1 .i32) (x : Vec F S2048x512 .bf16) (w : Vec F S4x512x1024 .bf16) : ℕ → Vec F S32x1024 .bf16
  | 0 => k0_pay29 me (k0_pay1 ids) (rank ids) (fits ids) 4#32 (k0_pay25 (k0_pay1 ids)) (k0_pay26 (k0_pay1 ids))
    (Scalar.extui (Scalar.cmpi .sgt 4#32 0#32)) (Scalar.extui (Scalar.cmpi .slt 4#32 0#32)) x (weights w 0)
  | 1 => k0_pay30 (picked me ids x) (weights w 1)
  | 2 => k0_pay31 (picked me ids x) (weights w 2)
  | _ => k0_pay32 (picked me ids x) (weights w 3)

/-- A device's number as the kernel computes it. -/
def word (c : Dev nD) : BitVec 32 := Scalar.remsi (Scalar.divsi (Dev.word c) 1#32) 16#32

/-! ## The staged inputs and the buffer, per device -/

variable (m : (ℓ : Loc nD τ sig) → Buf (Elt F) ℓ)

def xs (c : Dev nD) : (cc0_stg0_0 : Ref sig .tc).ty.Contents (Elt F) := (win0_0.blk (0 : Fin 1)).view.read (Elt F) (m ((c : Thread nD τ).loc main_arg0))
def ids (c : Dev nD) : (cc0_stg1_0 : Ref sig .tc).ty.Contents (Elt F) := (win0_1.blk (0 : Fin 1)).view.read (Elt F) (m ((c : Thread nD τ).loc main_arg2))
def ws (c : Dev nD) : (cc0_stg2_0 : Ref sig .tc).ty.Contents (Elt F) := (win0_2.blk (0 : Fin 1)).view.read (Elt F) (m ((c : Thread nD τ).loc main_arg3))

/-- The device `s` places after `c` round the ring. -/
def ahead (c : Dev nD) (s : ℕ) : Dev nD := ⟨(c.val + s) % 16, Nat.mod_lt _ (by decide)⟩

/-- A row and a column of a 32-row piece. -/
def at32 (r : ℕ) (j : Fin 1024) : S32x1024.Idx := fun
  | ⟨0, _⟩ => (⟨r % 32, Nat.mod_lt _ (by decide)⟩ : Fin 32)
  | ⟨1, _⟩ => j

/-- The communication buffer of device `c` when every copy has landed: rows `128 s + 32 e` on hold the product
    for expert `e` of the device `s` places ahead. -/
def full (c : Dev nD) : (cc0_scratch0 : Ref sig .tc).ty.Contents (Elt F) := fun i =>
  let d := ahead c ((i ⟨0, Nat.zero_lt_two⟩).val / 128)
  product (word d) (ids m d) (xs m d) (ws m d) ((i ⟨0, Nat.zero_lt_two⟩).val / 32 % 4) (at32 (i ⟨0, Nat.zero_lt_two⟩).val (i ⟨1, Nat.one_lt_two⟩))

/-- The kernel's result on device `c`. -/
def outAt (c : Dev nD) : (cc0_stg3_0 : Ref sig .tc).ty.Contents (Elt F) :=
  k0_pay34 (k0_pay33 (F := F) (slot (word c) (ids m c))) (full m c)

end Cert.Exchange

end
-- ==== Proof.Lanes.lean ====
/-
The ring's protocol. A device sends to both neighbours: in lane `false` to the device after it, in lane `true` to the
device before it. Transfer number `j` of a lane moves one 32-row piece of the communication buffer; piece numbers and
semaphore numbers are plain arithmetic of `j`. A transfer borrows a share of its source piece and hands it back on the
send semaphore; on the receive semaphore it hands over the whole landed piece. Before any transfer the neighbours hand
over, on the barrier semaphore, the pieces they are to be sent.
-/
module

public import proofs.«01_k».proof.Proof.Values

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The ring, the lanes, their pieces and semaphores -/

def nxt (c : Dev nD) : Dev nD := ahead c 1
def prv (c : Dev nD) : Dev nD := ahead c 15

theorem prv_nxt (c : Dev nD) : prv (nxt c) = c := by revert c; decide
theorem nxt_prv (c : Dev nD) : nxt (prv c) = c := by revert c; decide
theorem nxt_ne_prv (c : Dev nD) : nxt c ≠ prv c := by revert c; decide

def ring : Dev nD ≃ Dev nD := ⟨nxt, prv, prv_nxt, nxt_prv⟩

/-- Where lane `d` sends. -/
def peer : Bool → Dev nD → Dev nD
  | false, c => nxt c
  | true, c => prv c
/-- From where lane `d` is received. -/
def back : Bool → Dev nD → Dev nD
  | false, c => prv c
  | true, c => nxt c
theorem peer_back (d : Bool) (c : Dev nD) : peer d (back d c) = c := by cases d <;> [exact nxt_prv c; exact prv_nxt c]
theorem back_peer (d : Bool) (c : Dev nD) : back d (peer d c) = c := by cases d <;> [exact prv_nxt c; exact nxt_prv c]

/-- The number of transfers in a lane. -/
def len : Bool → ℕ
  | false => 32
  | true => 28
def srcP : Bool → ℕ → ℕ
  | false, j => 4 * ((16 - j / 4) % 16) + j % 4
  | true, j => j
def dstP : Bool → ℕ → ℕ
  | false, j => 4 * (15 - j / 4) + j % 4
  | true, j => j + 4
def sIx : Bool → ℕ → ℕ
  | false, j => 4 + j
  | true, j => 68 + j
def rIx : Bool → ℕ → ℕ
  | false, j => 36 + j
  | true, j => 96 + j

theorem sIx_ge (d : Bool) (j : ℕ) : 4 ≤ sIx d j := by cases d <;> simp only [sIx] <;> omega
theorem rIx_ge (d : Bool) (j : ℕ) : 4 ≤ rIx d j := by cases d <;> simp only [rIx] <;> omega
theorem sIx_lt {d : Bool} {j : ℕ} (h : j < len d) : sIx d j < 124 := by cases d <;> simp only [sIx, len] at * <;> omega
theorem rIx_lt {d : Bool} {j : ℕ} (h : j < len d) : rIx d j < 124 := by cases d <;> simp only [rIx, len] at * <;> omega
theorem srcP_lt {d : Bool} {j : ℕ} (h : j < len d) : srcP d j < 64 := by cases d <;> simp only [srcP, len] at * <;> omega
theorem dstP_lt {d : Bool} {j : ℕ} (h : j < len d) : dstP d j < 64 := by cases d <;> simp only [dstP, len] at * <;> omega

/-- DMA semaphore number `n`. -/
def dS (n : ℕ) : DmaSem sig := (⟨n % 124, Nat.mod_lt _ (by decide)⟩ : Fin 124)
theorem dS_val {n : ℕ} (h : n < 124) : (show Fin 124 from dS n).val = n := Nat.mod_eq_of_lt h
/-- The runtime's barrier semaphore. -/
abbrev barS : Sem sig := (SemArray.scalar (sig.barrier 0 rfl) : Sems sig S_).sem

abbrev barCell (c : Dev nD) : GSem nD τ sig := ((c : Thread nD τ), .reg barS)
abbrev dCell (c : Dev nD) (n : ℕ) : GSem nD τ sig := ((c : Thread nD τ), .dma (dS n))

/-- A semaphore's number when it is a DMA semaphore. -/
def dNum (q : DmaSem sig) : ℕ := (show Fin 124 from q).val
theorem dNum_dS {n : ℕ} (h : n < 124) : dNum (dS n) = n := Nat.mod_eq_of_lt h
theorem dS_dNum (q : DmaSem sig) : dS (dNum q) = q := Fin.ext (Nat.mod_eq_of_lt (show Fin 124 from q).isLt)
theorem dS_inj {n k : ℕ} (hn : n < 124) (hk : k < 124) (h : dS n = dS k) : n = k := by
  have := congrArg dNum h; rwa [dNum_dS hn, dNum_dS hk] at this

abbrev commM : Memref sig .tc .vmem S2048x1024 .bf16 := Memref.whole cc0_scratch0

/-- The 32 rows from `row` on, as the kernel slices them. -/
abbrev rowsM (row : ℕ) (h : ∀ a, (![row, 0] : Fin 2 → ℕ) a + S32x1024.size a ≤ S2048x1024.size a) :
    Memref sig .tc .vmem S32x1024 .bf16 := commM.slice (Rect.unit (s := S2048x1024) ![row, 0] S32x1024.size h) (fun _ => rfl)

/-- What one transfer is worth on its semaphores. -/
def N : ℕ := (rowsM 0 (by decide)).view.dmaCredit
theorem N_pos : 0 < N := View.dmaCredit_pos _ (by decide)

/-! ## Pieces of the buffer -/

/-- The indices of piece `p`: rows `32 p` to `32 p + 31`. -/
def piece (p : ℕ) : Finset S2048x1024.Idx := Finset.univ.filter fun i => (i ⟨0, Nat.zero_lt_two⟩).val / 32 = p

theorem mem_piece {p : ℕ} {i : S2048x1024.Idx} : i ∈ piece p ↔ (i ⟨0, Nat.zero_lt_two⟩).val / 32 = p := by
  unfold piece; rw [Finset.mem_filter]; exact ⟨fun h => h.2, fun h => ⟨Finset.mem_univ _, h⟩⟩

theorem piece_disjoint {p q : ℕ} (h : p ≠ q) : Disjoint (piece p) (piece q) := by
  rw [Finset.disjoint_left]; intro i hp hq; exact h ((mem_piece.mp hp).symm.trans (mem_piece.mp hq))

theorem piece_union : (Finset.range 64).biUnion piece = Finset.univ := by
  refine Finset.eq_univ_of_forall fun i => Finset.mem_biUnion.mpr ⟨(i ⟨0, Nat.zero_lt_two⟩).val / 32, ?_, mem_piece.mpr rfl⟩
  have h : (i ⟨0, Nat.zero_lt_two⟩).val < 2048 := (i ⟨0, Nat.zero_lt_two⟩).isLt
  exact Finset.mem_range.mpr (by omega)

omit [FloatOps F] in
theorem rows_set (p row : ℕ) (hr : row = 32 * p) (h) : (rowsM row h).view.set = piece p := by
  subst hr
  show ((View.whole cc0_scratch0).slice _).set = _
  rw [View.set_slice_whole]
  ext i
  rw [mem_piece]
  refine Rect.mem_set_unit.trans ⟨fun H => ?_, fun H a => ?_⟩
  · have := H ⟨0, Nat.zero_lt_two⟩
    have h1 : (32 * p ≤ (i ⟨0, Nat.zero_lt_two⟩).val ∧ (i ⟨0, Nat.zero_lt_two⟩).val < 32 * p + 32) := this
    omega
  · match a with
    | ⟨0, _⟩ =>
      show 32 * p ≤ (i ⟨0, Nat.zero_lt_two⟩).val ∧ (i ⟨0, Nat.zero_lt_two⟩).val < 32 * p + 32
      omega
    | ⟨1, _⟩ =>
      have : (i ⟨1, Nat.one_lt_two⟩).val < 1024 := (i ⟨1, Nat.one_lt_two⟩).isLt
      show 0 ≤ (i ⟨1, Nat.one_lt_two⟩).val ∧ (i ⟨1, Nat.one_lt_two⟩).val < 0 + 1024
      omega

/-- Piece `p` of device `c`'s buffer at share `q` with its final contents. -/
def pc (c : Dev nD) (p : ℕ) (q : PosShare TreeShare) : sProp 𝕄 := (c : Thread nD τ).loc cc0_scratch0 ↦[piece p]{q} full m c
/-- Piece `p` of device `c`'s buffer, contents unknown. -/
def anyPc (c : Dev nD) (p : ℕ) : sProp 𝕄 := iprop(∃ f, (c : Thread nD τ).loc cc0_scratch0 ↦[piece p]{fullShare} f)

instance pc_storable (c : Dev nD) (p : ℕ) (q : PosShare TreeShare) : BI.Storable (upEmb : UEmb _ 𝕄) (pc m c p q) := by unfold pc; infer_instance
omit [FloatOps F] in
instance anyPc_storable (c : Dev nD) (p : ℕ) : BI.Storable (upEmb : UEmb _ 𝕄) (anyPc (F := F) c p) := by unfold anyPc; infer_instance

/-- The share a transfer borrows: half of the piece, or a quarter where both lanes send the same piece. -/
def lentQ : Bool → ℕ → PosShare TreeShare
  | false, j => if j < 4 then fullShare.right.left else fullShare.right
  | true, j => if j < 4 then fullShare.right.right else fullShare.right

def lent (c : Dev nD) (d : Bool) (j : ℕ) : sProp 𝕄 := pc m c (srcP d j) (lentQ d j)
instance lent_storable (c : Dev nD) (d : Bool) (j : ℕ) : BI.Storable (upEmb : UEmb _ 𝕄) (lent m c d j) := by unfold lent; infer_instance

/-! ## The schedule -/

/-- What the barrier cell of `c` receives under duty `d`: the pieces of `peer d c` that lane `d` of `c` fills. -/
def barPay (c : Dev nD) (d : Bool) : sProp 𝕄 := bigSep (Finset.range (len d)) fun j => anyPc (peer d c) (dstP d j)

/-- What DMA semaphore `n` of device `c` hands over. -/
def xferPay (c : Dev nD) (n : ℕ) : sProp 𝕄 :=
  if n < 36 then lent m c false (n - 4)
  else if n < 68 then pc m c (dstP false (n - 36)) fullShare
  else if n < 96 then lent m c true (n - 68)
  else pc m c (dstP true (n - 96)) fullShare

def isBar (s : SemLoc sig) : Prop := s = .reg barS
instance (s : SemLoc sig) : Decidable (isBar s) := by unfold isBar; infer_instance

def dutiesOf : SemLoc sig → Finset Bool
  | .reg s => if s = barS then Finset.univ else ∅
  | .dma q => if 4 ≤ dNum q then {false} else ∅
def amountOf : SemLoc sig → ℕ
  | .reg _ => 1
  | .dma _ => N
def payOf (c : Dev nD) (d : Bool) : SemLoc sig → sProp 𝕄
  | .reg _ => barPay c d
  | .dma q => xferPay m c (dNum q)

theorem amountOf_pos (s : SemLoc sig) : 0 < amountOf s := by cases s <;> [exact Nat.one_pos; exact N_pos]

/-- One round. A barrier cell has two duties of one unit, the others one duty of a transfer's worth. -/
def rd : Rounds.Schedule (GSem nD τ sig) Bool 𝕄 where
  duties g r := if r = 0 ∧ g.1.2 = .tc then dutiesOf g.2 else ∅
  unitless _ := False
  amount g _ _ := amountOf g.2
  payload g _ d := payOf m g.1.1 d g.2
  amount_pos g _ _ _ := amountOf_pos g.2

instance barPay_storable (c : Dev nD) (d : Bool) : BI.Storable (upEmb : UEmb _ 𝕄) (barPay (F := F) c d) := by
  unfold barPay; infer_instance
instance xferPay_storable (c : Dev nD) (n : ℕ) : BI.Storable (upEmb : UEmb _ 𝕄) (xferPay m c n) := by
  unfold xferPay; (repeat' split) <;> infer_instance
instance rd_storable (g : GSem nD τ sig) (r : ℕ) (d : Bool) : BI.Storable (upEmb : UEmb _ 𝕄) ((rd (F := F) m).payload g r d) := by
  show BI.Storable upEmb (payOf m g.1.1 d g.2)
  cases g.2 <;> unfold payOf <;> infer_instance

theorem duties_bar (c : Dev nD) : (rd (F := F) m).duties (barCell c) 0 = Finset.univ := by
  dsimp only [rd]; rw [if_pos ⟨rfl, rfl⟩]; dsimp only [dutiesOf]; exact if_pos rfl
theorem duties_dma (c : Dev nD) {n : ℕ} (h4 : 4 ≤ n) (h : n < 124) : (rd (F := F) m).duties (dCell c n) 0 = {false} := by
  dsimp only [rd]; rw [if_pos ⟨rfl, rfl⟩]; dsimp only [dutiesOf]; rw [dNum_dS h]; exact if_pos h4
theorem duties_later (g : GSem nD τ sig) : ∀ r, 1 ≤ r → (rd (F := F) m).duties g r = ∅ :=
  fun r hr => by dsimp only [rd]; exact if_neg fun h => by omega

theorem expect_bar (c : Dev nD) : (rd (F := F) m).expect (barCell c) 0 = 2 := by
  unfold Schedule.expect Schedule.amountOf
  rw [duties_bar]; rfl
theorem expect_dma (c : Dev nD) {n : ℕ} (h4 : 4 ≤ n) (h : n < 124) : (rd (F := F) m).expect (dCell c n) 0 = N := by
  unfold Schedule.expect Schedule.amountOf; rw [duties_dma m c h4 h, Finset.sum_singleton]; rfl

theorem rest_bar (c : Dev nD) : bigSep ((rd (F := F) m).duties (barCell c) 0 \ ∅) (fun d => (rd (F := F) m).payload (barCell c) 0 d)
    = iprop(barPay c false ∗ barPay c true) := by
  rw [Finset.sdiff_empty, duties_bar, bigSep_univ_eq_bigSepL [false, true] (by decide) (by decide), bigSepL_cons_cons, bigSepL_singleton]
  rfl
theorem payload_dma (c : Dev nD) {n : ℕ} (h : n < 124) (d : Bool) : (rd (F := F) m).payload (dCell c n) 0 d = xferPay m c n := by
  show xferPay m c (dNum (dS n)) = _
  rw [dNum_dS h]
theorem rest_dma (c : Dev nD) {n : ℕ} (h4 : 4 ≤ n) (h : n < 124) :
    bigSep ((rd (F := F) m).duties (dCell c n) 0 \ ∅) (fun d => (rd (F := F) m).payload (dCell c n) 0 d) = xferPay m c n := by
  rw [Finset.sdiff_empty, duties_dma m c h4 h, bigSep_singleton, payload_dma m c h]

theorem xferPay_send (c : Dev nD) (d : Bool) {j : ℕ} (h : j < len d) : xferPay m c (sIx d j) = lent m c d j := by
  cases d <;> simp only [len] at h <;> unfold xferPay
  · rw [show sIx false j = 4 + j from rfl, if_pos (by omega)]; congr 1; omega
  · rw [show sIx true j = 68 + j from rfl, if_neg (by omega), if_neg (by omega), if_pos (by omega)]; congr 1; omega
theorem xferPay_recv (c : Dev nD) (d : Bool) {j : ℕ} (h : j < len d) : xferPay m c (rIx d j) = pc m c (dstP d j) fullShare := by
  cases d <;> simp only [len] at h <;> unfold xferPay
  · rw [show rIx false j = 36 + j from rfl, if_neg (by omega), if_pos (by omega)]; congr 2; omega
  · rw [show rIx true j = 96 + j from rfl, if_neg (by omega), if_neg (by omega), if_neg (by omega)]; congr 2; omega

/-! ## What is owed, and the levels -/

/-- What lane `d` of `c` still owes its peer's receive cells once `a` transfers have been started. -/
def owedLane (c : Dev nD) (d : Bool) (a : ℕ) : CellTallies nD τ sig Unit := ∑ j ∈ Finset.Ico a (len d), tallyAt (dCell (peer d c) (rIx d j)) () N
def owedC (c : Dev nD) (a b : ℕ) : CellTallies nD τ sig Unit := owedLane c false a + owedLane c true b
def O₀ (c : Dev nD) : CellTallies nD τ sig Unit := owedC c 0 0 + tallyAt (barCell (nxt c)) () 1 + tallyAt (barCell (prv c)) () 1

def L (g : GSem nD τ sig) : Finset Unit := if g.1.2 = .tc then {()} else ∅
def lvOf : SemLoc sig → ℕ
  | .reg _ => 1
  | .dma q => if 36 ≤ dNum q ∧ dNum q < 68 then 2 + 2 * (dNum q - 36) else if 96 ≤ dNum q then 3 + 2 * (dNum q - 96) else 0
theorem lvOf_reg (s : Sem sig) : lvOf (.reg s) = 1 := rfl
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

/-- The level of lane `d`'s receive cell number `j`. -/
def lvR : Bool → ℕ → ℕ
  | false, j => 2 + 2 * j
  | true, j => 3 + 2 * j
theorem lv_recv (c : Dev nD) (d : Bool) {j : ℕ} (h : j < len d) : lv (dCell c (rIx d j)) () = lvR d j := by
  show lvOf (.dma (dS (rIx d j))) = _
  unfold lvOf; dsimp only; rw [dNum_dS (rIx_lt h)]
  cases d <;> simp only [len] at h
  · rw [show rIx false j = 36 + j from rfl, show lvR false j = 2 + 2 * j from rfl, if_pos (by omega)]; omega
  · rw [show rIx true j = 96 + j from rfl, show lvR true j = 3 + 2 * j from rfl, if_neg (by omega), if_pos (by omega)]; omega
theorem lv_send (c : Dev nD) (d : Bool) {j : ℕ} (h : j < len d) : lv (dCell c (sIx d j)) () = 0 := by
  show lvOf (.dma (dS (sIx d j))) = _
  unfold lvOf; dsimp only; rw [dNum_dS (sIx_lt h)]
  cases d <;> simp only [len] at h
  · rw [show sIx false j = 4 + j from rfl, if_neg (by omega), if_neg (by omega)]
  · rw [show sIx true j = 68 + j from rfl, if_neg (by omega), if_neg (by omega)]

theorem sum_tally_pos {ι : Type} (s : Finset ι) (f : ι → GSem nD τ sig) (n : ℕ) {g : GSem nD τ sig} {u : Unit}
    (h : 0 < (∑ j ∈ s, tallyAt (f j) () n : CellTallies nD τ sig Unit) g u) : ∃ j ∈ s, g = f j := by
  classical
  induction s using Finset.induction_on with
  | empty => rw [Finset.sum_empty] at h; exact absurd h (Nat.lt_irrefl 0)
  | insert a s ha ih =>
    rw [Finset.sum_insert ha, Pi.add_apply, Finsupp.add_apply, tallyAt_apply] at h
    by_cases hg : g = f a
    · exact ⟨a, Finset.mem_insert_self _ _, hg⟩
    · rw [if_neg fun h' => hg h'.1, Nat.zero_add] at h
      obtain ⟨j, hj, e⟩ := ih h
      exact ⟨j, Finset.mem_insert_of_mem hj, e⟩

theorem owedC_pos {c : Dev nD} {a b : ℕ} {g : GSem nD τ sig} {u : Unit} (h : 0 < owedC c a b g u) :
    (∃ j, a ≤ j ∧ j < len false ∧ g = dCell (nxt c) (rIx false j)) ∨ (∃ j, b ≤ j ∧ j < len true ∧ g = dCell (prv c) (rIx true j)) := by
  unfold owedC owedLane at h
  rw [Pi.add_apply, Finsupp.add_apply] at h
  rcases Nat.eq_zero_or_pos ((∑ j ∈ Finset.Ico a (len false), tallyAt (dCell (peer false c) (rIx false j)) () N : CellTallies nD τ sig Unit) g u) with h0 | h0
  · rw [h0, Nat.zero_add] at h
    obtain ⟨j, hj, e⟩ := sum_tally_pos _ _ _ h
    exact .inr ⟨j, (Finset.mem_Ico.mp hj).1, (Finset.mem_Ico.mp hj).2, e⟩
  · obtain ⟨j, hj, e⟩ := sum_tally_pos _ _ _ h0
    exact .inl ⟨j, (Finset.mem_Ico.mp hj).1, (Finset.mem_Ico.mp hj).2, e⟩

omit [FloatOps F] in
/-- A device may wait on a cell of a level below the receive cells it still owes. -/
theorem mayWait_of_lt (c : Dev nD) (s : SemLoc sig) (n a b : ℕ) (hn : lvOf s ≤ n) (ha : ∀ j, a ≤ j → j < 32 → n < lvR false j) (hb : ∀ j, b ≤ j → j < 28 → n < lvR true j) :
    (levAts L lv : sProp 𝕄) ⊢ MayWait (c : Thread nD τ) s () (owedC c a b) :=
  MayOwe.of_cut (L := L) (lev := lv) n (fun p hp => by rw [Finset.mem_singleton.mp hp, L_tc]; exact Finset.mem_singleton_self _)
    (fun g u hg => by rcases owedC_pos hg with ⟨j, _, _, rfl⟩ | ⟨j, _, _, rfl⟩ <;> exact Finset.mem_singleton_self _)
    (fun p hp => by rw [Finset.mem_singleton.mp hp]; exact hn)
    (fun g u hg => by
      rcases owedC_pos hg with ⟨j, h1, h2, rfl⟩ | ⟨j, h1, h2, rfl⟩
      · exact lt_of_lt_of_eq (ha j h1 h2) (lv_recv _ false h2).symm
      · exact lt_of_lt_of_eq (hb j h1 h2) (lv_recv _ true h2).symm)

theorem O₀_pos {c : Dev nD} {g : GSem nD τ sig} {u : Unit} (h : 0 < O₀ c g u) :
    0 < owedC c 0 0 g u ∨ g = barCell (nxt c) ∨ g = barCell (prv c) := by
  unfold O₀ at h
  rw [Pi.add_apply, Finsupp.add_apply, Pi.add_apply, Finsupp.add_apply, tallyAt_apply, tallyAt_apply] at h
  by_cases h1 : g = barCell (nxt c)
  · exact .inr (.inl h1)
  by_cases h2 : g = barCell (prv c)
  · exact .inr (.inr h2)
  rw [if_neg fun h' => h1 h'.1, if_neg fun h' => h2 h'.1] at h
  simp only [Nat.add_zero] at h
  exact .inl h

theorem O₀_lv {c : Dev nD} {g : GSem nD τ sig} {u : Unit} (h : 0 < O₀ c g u) : 0 < lv g u := by
  rcases O₀_pos h with h | rfl | rfl
  · rcases owedC_pos h with ⟨j, _, h2, e⟩ | ⟨j, _, h2, e⟩
    · rw [e]; exact lt_of_lt_of_eq (show 0 < lvR false j by dsimp only [lvR]; omega) (lv_recv (nxt c) false h2).symm
    · rw [e]; exact lt_of_lt_of_eq (show 0 < lvR true j by dsimp only [lvR]; omega) (lv_recv (prv c) true h2).symm
  · show 0 < lvOf (.reg barS); rw [lvOf_reg]; exact Nat.one_pos
  · show 0 < lvOf (.reg barS); rw [lvOf_reg]; exact Nat.one_pos

theorem O₀_L {c : Dev nD} {g : GSem nD τ sig} {u : Unit} (h : 0 < O₀ c g u) : u ∈ L g := by
  rcases O₀_pos h with h | rfl | rfl
  · rcases owedC_pos h with ⟨j, _, h, rfl⟩ | ⟨j, _, h, rfl⟩ <;> exact Finset.mem_singleton_self _
  · exact Finset.mem_singleton_self _
  · exact Finset.mem_singleton_self _

omit [FloatOps F] in
/-- A staging cell may be waited on with the launch's whole debt, and with none. -/
theorem mayWait_stage (c : Dev nD) (q : DmaSem sig) (hq : lvOf (.dma q) = 0) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => O₀_L hg) (fun p hp => by rw [Finset.mem_singleton.mp hp]; exact hq.le) (fun g u hg => O₀_lv hg)
  · rw [MayWait_zero]; iintro -; iempintro

end Cert.Exchange

end
-- ==== Proof.State.lean ====
/-
The state of a device between two memory operations of the kernel, and how one transfer of a lane moves it.
-/
module

public import proofs.«01_k».proof.Proof.Lanes

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## Intervals -/

omit [FloatOps F] in
theorem bigSep_Ico_bot {a b : ℕ} (h : a < b) (Φ : ℕ → sProp 𝕄) :
    bigSep (Finset.Ico a b) Φ = iprop(Φ a ∗ bigSep (Finset.Ico (a + 1) b) Φ) := by
  have e : Finset.Ico a b = insert a (Finset.Ico (a + 1) b) := by
    ext i; rw [Finset.mem_insert, Finset.mem_Ico, Finset.mem_Ico]; omega
  rw [e, bigSep_insert (by rw [Finset.mem_Ico]; omega)]
  rfl
omit [FloatOps F] in
theorem bigSep_Ico_top {a b : ℕ} (h : a ≤ b) (Φ : ℕ → sProp 𝕄) :
    bigSep (Finset.Ico a (b + 1)) Φ = iprop(Φ b ∗ bigSep (Finset.Ico a b) Φ) := by
  have e : Finset.Ico a (b + 1) = insert b (Finset.Ico a b) := by
    ext i; rw [Finset.mem_insert, Finset.mem_Ico, Finset.mem_Ico]; omega
  rw [e, bigSep_insert (by rw [Finset.mem_Ico]; omega)]
  rfl
theorem owedLane_bot (c : Dev nD) (d : Bool) {a : ℕ} (h : a < len d) :
    owedLane c d a = owedLane c d (a + 1) + tallyAt (dCell (peer d c) (rIx d a)) () N := by
  unfold owedLane
  have e : Finset.Ico a (len d) = insert a (Finset.Ico (a + 1) (len d)) := by
    ext i; rw [Finset.mem_insert, Finset.mem_Ico, Finset.mem_Ico]; omega
  rw [e, Finset.sum_insert (by rw [Finset.mem_Ico]; omega), add_comm]

/-- One conjunct of a big conjunction. -/
theorem at_elt {I : Type} [DecidableEq I] {s : Finset I} {i : I} (h : i ∈ s) (Φ : I → sProp 𝕄) : (bigSep s Φ : sProp 𝕄) ⊢ Φ i := bigSep_elim h

/-! ## What every device knows -/

/-- The cell's invariant is in force, and its only round has begun. -/
def known (g : GSem nD τ sig) : sProp 𝕄 := iprop(∃ κ, cellInv ER (rd m) κ g ∗ reached ER g 0)
instance known_persistent (g : GSem nD τ sig) : BI.Persistent (known m g) := by unfold known; infer_instance

def records : sProp 𝕄 := bigSep Finset.univ fun c : Dev nD => iprop(known m (barCell c) ∗ bigSep (Finset.Ico 4 124) fun n => known m (dCell c n))
instance records_persistent : BI.Persistent (records m) := by unfold records; infer_instance

def env : sProp 𝕄 := iprop(records m ∗ levAts L lv)
instance env_persistent : BI.Persistent (env m) := by unfold env; infer_instance

theorem records_bar (c : Dev nD) : records m ⊢ known m (barCell c) := by
  unfold records
  iintro H
  ihave H := (at_elt (Finset.mem_univ c) _) $$ H
  icases H with ⟨H, -⟩
  iexact H
theorem records_dma (c : Dev nD) {n : ℕ} (h4 : 4 ≤ n) (h : n < 124) : records m ⊢ known m (dCell c n) := by
  unfold records
  iintro H
  ihave H := (at_elt (Finset.mem_univ c) _) $$ H
  icases H with ⟨-, H⟩
  iapply (at_elt (Finset.mem_Ico.mpr ⟨h4, h⟩) (fun n => known m (dCell c n))) $$ H

/-! ## The state of a lane -/

def toStart (c : Dev nD) (d : Bool) (j : ℕ) : sProp 𝕄 :=
  iprop(dutyTok ER (dCell c (sIx d j)) 0 false ∗ dutyTok ER (dCell (peer d c) (rIx d j)) 0 false ∗ anyPc (peer d c) (dstP d j)
    ∗ atPos ER (dCell c (sIx d j)) 0 ∅ 0)
def started (c : Dev nD) (d : Bool) (j : ℕ) : sProp 𝕄 := iprop(atPos ER (dCell c (sIx d j)) 0 ∅ 0 ∗ cred (tallyAt (dCell c (sIx d j)) () N))
def returned (c : Dev nD) (d : Bool) (j : ℕ) : sProp 𝕄 := iprop(lent m c d j ∗ semVal (dCell c (sIx d j)) 0)
def toLand (c : Dev nD) (d : Bool) (j : ℕ) : sProp 𝕄 := iprop(atPos ER (dCell c (rIx d j)) 0 ∅ 0 ∗ cred (tallyAt (dCell c (rIx d j)) () N))
def landed (c : Dev nD) (d : Bool) (j : ℕ) : sProp 𝕄 := iprop(pc m c (dstP d j) fullShare.left ∗ semVal (dCell c (rIx d j)) 0)

/-- Lane `d` of `c`: `a` transfers started, `v` of their sources back, `b` transfers landed, the sources of the first
    `l` transfers at hand so far. -/
def lane (c : Dev nD) (d : Bool) (a v b l : ℕ) : sProp 𝕄 :=
  iprop(bigSep (Finset.Ico a (len d)) (toStart c d) ∗ bigSep (Finset.Ico v a) (started c d) ∗ bigSep (Finset.Ico 0 v) (returned m c d)
    ∗ bigSep (Finset.Ico b (len d)) (toLand c d) ∗ bigSep (Finset.Ico 0 b) (landed m c d) ∗ bigSep (Finset.Ico a l) (lent m c d))

/-- The device's state: `e` own products stored; the two lanes. -/
def st (c : Dev nD) (e a v b a' v' b' : ℕ) : sProp 𝕄 :=
  iprop((∃ W, owes (c : Thread nD τ) (owedC c a a') W) ∗ lane m c false a v b (e + b) ∗ lane m c true a' v' b' (e + b')
    ∗ bigSep (Finset.Ico e 4) (anyPc c) ∗ bigSep (Finset.Ico 0 e) (fun p => pc m c p fullShare.left))

/-! ## Shares -/

theorem pc_halves (c : Dev nD) (p : ℕ) : pc m c p fullShare = iprop(pc m c p fullShare.left ∗ pc m c p fullShare.right) := by
  unfold pc
  have h := pointsTo_share (Ix := Unit) (Name := ℕ) (U := UU) (Lvl := ℕ) (ℓ := (c : Thread nD τ).loc cc0_scratch0) (I := piece p) (f := full m c) (PosShare.mem_left_op_right fullShare)
  exact BI.Entails.antisymm h.1 h.2
theorem pc_quarters (c : Dev nD) (p : ℕ) : pc m c p fullShare.right = iprop(pc m c p fullShare.right.left ∗ pc m c p fullShare.right.right) := by
  unfold pc
  have h := pointsTo_share (Ix := Unit) (Name := ℕ) (U := UU) (Lvl := ℕ) (ℓ := (c : Thread nD τ).loc cc0_scratch0) (I := piece p) (f := full m c) (PosShare.mem_left_op_right fullShare.right)
  exact BI.Entails.antisymm h.1 h.2

/-- A landed piece is the source of the lane's transfer four numbers later. -/
theorem srcP_add_four (d : Bool) {j : ℕ} (h : j < len d) : srcP d (j + 4) = dstP d j := by
  cases d <;> simp only [len] at h
  · show 4 * ((16 - (j + 4) / 4) % 16) + (j + 4) % 4 = 4 * (15 - j / 4) + j % 4
    omega
  · rfl
theorem lent_add_four (c : Dev nD) (d : Bool) {j : ℕ} (h : j < len d) : lent m c d (j + 4) = pc m c (dstP d j) fullShare.right := by
  unfold lent
  rw [srcP_add_four d h]
  cases d <;> (dsimp only [lentQ]; rw [if_neg (by omega)])

/-! ## Contents of a landed piece -/

theorem at32_mod (r : ℕ) (j : Fin 1024) : at32 (r % 32) j = at32 r j := by
  funext a
  match a with
  | ⟨0, _⟩ => exact Fin.ext (Nat.mod_mod _ _)
  | ⟨1, _⟩ => rfl

/-- Two places of two devices' buffers that name the same device, expert and row hold the same number. -/
theorem full_eq {c c' : Dev nD} {i i' : S2048x1024.Idx} (hd : ahead c ((i ⟨0, Nat.zero_lt_two⟩).val / 128) = ahead c' ((i' ⟨0, Nat.zero_lt_two⟩).val / 128))
    (he : (i ⟨0, Nat.zero_lt_two⟩).val / 32 % 4 = (i' ⟨0, Nat.zero_lt_two⟩).val / 32 % 4)
    (hr : (i ⟨0, Nat.zero_lt_two⟩).val % 32 = (i' ⟨0, Nat.zero_lt_two⟩).val % 32) (hc : i ⟨1, Nat.one_lt_two⟩ = i' ⟨1, Nat.one_lt_two⟩) :
    (full m c : S2048x1024.Idx → Elt F .bf16) i = (full m c' : S2048x1024.Idx → Elt F .bf16) i' := by
  have ha : at32 (i ⟨0, Nat.zero_lt_two⟩).val (i ⟨1, Nat.one_lt_two⟩) = at32 (i' ⟨0, Nat.zero_lt_two⟩).val (i' ⟨1, Nat.one_lt_two⟩) :=
    (at32_mod _ _).symm.trans ((congrArg₂ at32 hr hc).trans (at32_mod _ _))
  unfold full
  dsimp only
  rw [hd, he]
  exact congrArg _ ha

theorem ring_step (d : Bool) (c : Dev nD) {j : ℕ} (h : j < len d) (r : ℕ) (hr : r < 32) :
    ahead (peer d c) ((32 * dstP d j + r) / 128) = ahead c ((32 * srcP d j + r) / 128) := by
  have hc : c.val < 16 := c.isLt
  cases d <;> simp only [len] at h <;> apply Fin.ext
  · show ((c.val + 1) % 16 + (32 * (4 * (15 - j / 4) + j % 4) + r) / 128) % 16 = (c.val + (32 * (4 * ((16 - j / 4) % 16) + j % 4) + r) / 128) % 16
    omega
  · show ((c.val + 15) % 16 + (32 * (j + 4) + r) / 128) % 16 = (c.val + (32 * j + r) / 128) % 16
    omega

theorem piece_step (d : Bool) {j : ℕ} (h : j < len d) : dstP d j % 4 = srcP d j % 4 := by
  cases d <;> simp only [len] at h
  · show (4 * (15 - j / 4) + j % 4) % 4 = (4 * ((16 - j / 4) % 16) + j % 4) % 4
    omega
  · show (j + 4) % 4 = j % 4
    omega

/-- Where row `r` of a slice lies. -/
theorem rows_emb (row : ℕ) (h) (x : S32x1024.Idx) :
    (((rowsM row h).view.emb x : S2048x1024.Idx) ⟨0, Nat.zero_lt_two⟩).val = row + (x ⟨0, Nat.zero_lt_two⟩).val
      ∧ ((rowsM row h).view.emb x : S2048x1024.Idx) ⟨1, Nat.one_lt_two⟩ = x ⟨1, Nat.one_lt_two⟩ := by
  constructor
  · show row + 1 * (x ⟨0, Nat.zero_lt_two⟩).val = _
    omega
  · apply Fin.ext
    show 0 + 1 * (x ⟨1, Nat.one_lt_two⟩).val = _
    omega

/-- A landed transfer leaves in the peer's piece what the peer's buffer is to hold there. -/
theorem transfer_contents (d : Bool) (c : Dev nD) {j : ℕ} (h : j < len d) (hs) (ht) (fd : (cc0_scratch0 : Ref sig .tc).ty.Contents (Elt F))
    (i : S2048x1024.Idx) (hi : i ∈ piece (dstP d j)) :
    ((rowsM (32 * dstP d j) ht).view.write (Elt F) fd ((rowsM (32 * srcP d j) hs).view.read (Elt F) (full m c)) Finset.univ : S2048x1024.Idx → Elt F .bf16) i
      = (full m (peer d c) : S2048x1024.Idx → Elt F .bf16) i := by
  have hi' : i ∈ (rowsM (32 * dstP d j) ht).view.set := by rw [rows_set _ _ rfl]; exact hi
  obtain ⟨x, -, rfl⟩ := Finset.mem_map.mp hi'
  rw [View.write_emb_of_mem _ _ (Finset.mem_univ x), View.read_apply]
  refine (cast_cast _ _ _).trans ((cast_eq _ _).trans ?_)
  have h0 := rows_emb (32 * srcP d j) hs x
  have h1 := rows_emb (32 * dstP d j) ht x
  have hx : (x ⟨0, Nat.zero_lt_two⟩).val < 32 := (x ⟨0, Nat.zero_lt_two⟩).isLt
  refine full_eq m ?_ ?_ ?_ ?_
  · rw [h0.1, h1.1, ring_step d c h _ hx]
  · rw [h0.1, h1.1]; have := piece_step d h; omega
  · rw [h0.1, h1.1]; omega
  · exact h0.2.trans h1.2.symm

end Cert.Exchange

end
-- ==== Proof.Steps.lean ====
/-
The kernel's memory operations, one rule each, as moves of the device's state.
-/
module

public import proofs.«01_k».proof.Proof.State

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The weakest precondition of the rest of device `c`'s program. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## A lane's three moves -/

/-- A transfer of lane `d` starts. -/
theorem lane_send (c n : Dev nD) (d : Bool) (hn : n = peer d c) {a v b l rs rt : ℕ} {q₁ q₂ : DmaSem sig}
    (hq₁ : q₁ = dS (sIx d a)) (hq₂ : q₂ = dS (rIx d a)) (hrs : rs = 32 * srcP d a) (hrt : rt = 32 * dstP d a)
    (ha : a < len d) (hv : v ≤ a) (hl : a < l) (R : CellTallies nD τ sig Unit)
    {hs} {ht} {hsc : (rowsM rt ht : Memref sig (Dev.tc n : Thread nD τ).2.kind .vmem S32x1024 .bf16).view.ref.isScScratch = false}
    {hsrc : (rowsM rs hs).view.WordExact} {hdst : (rowsM rt ht).view.WordExact}
    {hsem : DmaTarget.Typed .vmem (.dma q₂) (.remote (Dev.tc n : Thread nD τ) (rowsM rt ht) (.dma q₁) hsc)}
    {α : Type} {Q : α → sProp 𝕄} {k : PUnit → Prog (TpuEff nD τ sig (Elt F) Λ₀ .tc) α} (W : Waits sig Unit) :
    iprop(env m ∗ owes (c : Thread nD τ) (R + owedLane c d a) W ∗ lane m c d a v b l)
      ⊢ iprop(((owes (c : Thread nD τ) (R + owedLane c d (a + 1)) W ∗ lane m c d (a + 1) v b l) -∗ wpc c (k ⟨⟩) Q)
          -∗ wpc c (.op (.enqueueDma (rowsM rs hs) (.remote (Dev.tc n : Thread nD τ) (rowsM rt ht) (.dma q₁) hsc) (.dma q₂) hsrc hdst hsem) k) Q) := by
  subst hn hq₁ hq₂ hrs hrt
  unfold lane
  rw [bigSep_Ico_bot ha, bigSep_Ico_bot hl, bigSep_Ico_top hv, owedLane_bot c d ha]
  unfold env toStart lent pc anyPc started
  iintro ⟨⟨#HR, #Hlev⟩, HO, ⟨⟨Ht1, Ht2, ⟨%fn, Hd⟩, Hat⟩, Hst⟩, Hsd, Hret, Htl, Hla, Hs, Hlent⟩ Hk
  ihave K1 := (records_dma m c (sIx_ge d a) (sIx_lt ha)) $$ HR
  ihave K2 := (records_dma m (peer d c) (rIx_ge d a) (rIx_lt ha)) $$ HR
  unfold known
  icases K1 with ⟨%κ₁, #HI1, #Hr1⟩
  icases K2 with ⟨%κ₂, #HI2, #Hr2⟩
  iapply (Rounds.wp_send_pointsTo 𝒱₀ ER (rd m) (c : Thread nD τ) none (c' := (peer d c : Thread nD τ)) (κ₁ := κ₁) (κ₂ := κ₂)
    (r₁ := 0) (r₂ := 0) (d₁ := false) (d₂ := false) (src := rowsM (32 * srcP d a) hs) (dst := rowsM (32 * dstP d a) ht) (fd := fn) (fs := full m c) (q := lentQ d a)
    (by rw [duties_dma m c (sIx_ge d a) (sIx_lt ha)]; exact Finset.mem_singleton_self _)
    (by rw [duties_dma m (peer d c) (rIx_ge d a) (rIx_lt ha)]; exact Finset.mem_singleton_self _)
    () () N rfl rfl rfl (R + owedLane c d (a + 1)) (by rw [add_assoc]) (W := W)
    (by rw [payload_dma m c (sIx_lt ha), xferPay_send m c d ha, rows_set _ _ rfl]; exact BI.Entails.refl _)
    (by
      rw [payload_dma m (peer d c) (rIx_lt ha), xferPay_recv m (peer d c) d ha, rows_set _ _ rfl]
      exact Entails.of_eq (pointsTo_congr fun i hi => transfer_contents m d c ha hs ht fn i hi))) $$ [HO Ht1 Ht2 Hd Hs]
  · isplitr; · iexact HI1
    isplitr; · iexact HI2
    isplitl [Hs]; · rw [rows_set _ _ rfl]; iexact Hs
    isplitl [Hd]; · rw [rows_set _ _ rfl]; iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexact HO
  isplitl [Hst]; · iexact Hst
  isplitl [Hsd Hat Hc]
  · isplitl [Hat Hc]
    · isplitl [Hat]; · iexact Hat
      iexact Hc
    iexact Hsd
  isplitl [Hret]; · iexact Hret
  isplitl [Htl]; · iexact Htl
  isplitl [Hla]; · iexact Hla
  iexact Hlent

/-- A wait on a DMA cell that is served by one whole transfer: its payload, and the cell's counter at zero for good. -/
theorem cell_wait (c : Dev nD) {n : ℕ} (h4 : 4 ≤ n) (hn : n < 124) {q : DmaSem sig} (hq : q = dS n)
    {dst src : Memref sig .tc .vmem S32x1024 .bf16} {hsrc : src.view.WordExact} {hdst : dst.view.WordExact} (hN : dst.view.dmaCredit = N)
    {α : Type} {Q : α → sProp 𝕄} {k : PUnit → Prog (TpuEff nD τ sig (Elt F) Λ₀ .tc) α} {O : CellTallies nD τ sig Unit} (W : Waits sig Unit) :
    iprop(records m ∗ MayWait (c : Thread nD τ) (.dma (dS n)) () O ∗ owes (c : Thread nD τ) O W ∗ atPos ER (dCell c n) 0 ∅ 0 ∗ cred (tallyAt (dCell c n) () N))
      ⊢ iprop(((owes (c : Thread nD τ) O (insert (SemLoc.dma (dS n), ()) W) ∗ xferPay m c n ∗ semVal (dCell c n) 0) -∗ wpc c (k ⟨⟩) Q)
          -∗ wpc c (.op (.waitDma2 q src dst hsrc hdst) k) Q) := by
  subst hq
  iintro ⟨#HR, Hmw, HO, Hat, Hc⟩ Hk
  ihave K1 := (records_dma m c h4 hn) $$ HR
  unfold known
  icases K1 with ⟨%κ, #HI, #Hr⟩
  iapply (Rounds.wp_wait_rest_token 𝒱₀ ER (rd m) (c : Thread nD τ) none (κ := κ) (k' := N)
      (fun K => (wpE_waitDma2_eq 𝒱₀ (c : Thread nD τ) none Set.univ K).trans (by rw [hN])) (Set.mem_univ _) () (O := O) (W := W) (R := 0) (m := 0) (T := ∅)
      (by rw [Nat.zero_add, expect_dma m c h4 hn])) $$ [HO Hat Hc Hmw]
  · isplitr; · iexact HI
    isplitl [Hc]; · iexact Hc
    isplitl [HO]; · iexact HO
    isplitl [Hmw]; · iexact Hmw
    iexact Hat
  iintro ⟨HO, Hat, -, Hpay⟩
  ihave Hp := (Entails.of_eq (rest_dma m c h4 hn)) $$ Hpay
  imod (Rounds.cell_close ER (rd m) (Set.mem_univ κ) (fun h => h) (R := 0 + 1) (duties_later m (dCell c n))) $$ [Hat] with Hz
  · isplitr; · iexact HI
    iexact Hat
  iapply Hk
  isplitl [HO]; · iexact HO
  isplitl [Hp] <;> iassumption

/-- A transfer of lane `d` has landed. -/
theorem lane_recv (c : Dev nD) (d : Bool) {a v b l : ℕ} (hb : b < len d) (hl : a ≤ l) (hle : l = b + 4) {q : DmaSem sig} (hq : q = dS (rIx d b))
    {dst src : Memref sig .tc .vmem S32x1024 .bf16} {hsrc : src.view.WordExact} {hdst : dst.view.WordExact} (hN : dst.view.dmaCredit = N)
    {α : Type} {Q : α → sProp 𝕄} {k : PUnit → Prog (TpuEff nD τ sig (Elt F) Λ₀ .tc) α} {O : CellTallies nD τ sig Unit} (W : Waits sig Unit)
    (hmw : (levAts L lv : sProp 𝕄) ⊢ MayWait (c : Thread nD τ) (.dma (dS (rIx d b))) () O) :
    iprop(env m ∗ owes (c : Thread nD τ) O W ∗ lane m c d a v b l)
      ⊢ iprop(((owes (c : Thread nD τ) O (insert (SemLoc.dma (dS (rIx d b)), ()) W) ∗ lane m c d a v (b + 1) (l + 1)) -∗ wpc c (k ⟨⟩) Q)
          -∗ wpc c (.op (.waitDma2 q src dst hsrc hdst) k) Q) := by
  unfold lane
  rw [bigSep_Ico_bot hb, bigSep_Ico_top (Nat.zero_le b), bigSep_Ico_top hl, hle, lent_add_four m c d hb]
  unfold env
  iintro ⟨⟨#HR, #Hlev⟩, HO, Hst, Hsd, Hret, ⟨Ht, Htl⟩, Hla, Hlent⟩ Hk
  unfold toLand
  icases Ht with ⟨Hat, Hc⟩
  iapply (cell_wait m c (rIx_ge d b) (rIx_lt hb) hq hN W) $$ [HO Hat Hc]
  · isplitr; · iexact HR
    isplitr; · iapply hmw; iexact Hlev
    isplitl [HO]; · iexact HO
    isplitl [Hat] <;> iassumption
  iintro ⟨HO, Hp, Hz⟩
  ihave Hp := (Entails.of_eq ((xferPay_recv m c d hb).trans (pc_halves m c _))) $$ Hp
  icases Hp with ⟨Hp1, Hp2⟩
  iapply Hk
  isplitl [HO]; · iexact HO
  isplitl [Hst]; · iexact Hst
  isplitl [Hsd]; · iexact Hsd
  isplitl [Hret]; · iexact Hret
  isplitl [Htl]; · iexact Htl
  isplitl [Hla Hp1 Hz]
  · isplitl [Hp1 Hz]
    · unfold landed; isplitl [Hp1] <;> iassumption
    iexact Hla
  isplitl [Hp2] <;> iassumption

/-- The source of a transfer of lane `d` is back. -/
theorem lane_back (c : Dev nD) (d : Bool) {a v b l : ℕ} (hv : v < a) (ha : a ≤ len d) {q : DmaSem sig} (hq : q = dS (sIx d v))
    {dst src : Memref sig .tc .vmem S32x1024 .bf16} {hsrc : src.view.WordExact} {hdst : dst.view.WordExact} (hN : dst.view.dmaCredit = N)
    {α : Type} {Q : α → sProp 𝕄} {k : PUnit → Prog (TpuEff nD τ sig (Elt F) Λ₀ .tc) α} {O : CellTallies nD τ sig Unit} (W : Waits sig Unit)
    (hmw : (levAts L lv : sProp 𝕄) ⊢ MayWait (c : Thread nD τ) (.dma (dS (sIx d v))) () O) :
    iprop(env m ∗ owes (c : Thread nD τ) O W ∗ lane m c d a v b l)
      ⊢ iprop(((owes (c : Thread nD τ) O (insert (SemLoc.dma (dS (sIx d v)), ()) W) ∗ lane m c d a (v + 1) b l) -∗ wpc c (k ⟨⟩) Q)
          -∗ wpc c (.op (.waitDma2 q src dst hsrc hdst) k) Q) := by
  unfold lane
  rw [bigSep_Ico_bot hv, bigSep_Ico_top (Nat.zero_le v)]
  unfold env
  iintro ⟨⟨#HR, #Hlev⟩, HO, Hst, ⟨Ht, Hsd⟩, Hret, Htl, Hla, Hlent⟩ Hk
  unfold started
  icases Ht with ⟨Hat, Hc⟩
  iapply (cell_wait m c (sIx_ge d v) (sIx_lt (hv.trans_le ha)) hq hN W) $$ [HO Hat Hc]
  · isplitr; · iexact HR
    isplitr; · iapply hmw; iexact Hlev
    isplitl [HO]; · iexact HO
    isplitl [Hat] <;> iassumption
  iintro ⟨HO, Hp, Hz⟩
  ihave Hp := (Entails.of_eq (xferPay_send m c d (hv.trans_le ha))) $$ Hp
  iapply Hk
  isplitl [HO]; · iexact HO
  isplitl [Hst]; · iexact Hst
  isplitl [Hsd]; · iexact Hsd
  isplitl [Hret Hp Hz]
  · isplitl [Hp Hz]
    · unfold returned; isplitl [Hp] <;> iassumption
    iexact Hret
  isplitl [Htl]; · iexact Htl
  isplitl [Hla] <;> iassumption

end Cert.Exchange

end
-- ==== Proof.Moves.lean ====
/-
The kernel's memory operations as moves of a device's whole state, in the form "if the rest is right from the next state,
then the operation and the rest are right from this one".
-/
module

public import proofs.«01_k».proof.Proof.Steps

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section Moves
variable {c : Dev nD} {e a v b a' v' b' : ℕ} {α : Type}

theorem send_false {R : sProp 𝕄} {Q : α → sProp 𝕄} {k : PUnit → Prog (TpuEff nD τ sig (Elt F) Λ₀ .tc) α} {n : Dev nD} {rs rt : ℕ} {q₁ q₂ : DmaSem sig}
    {hs} {ht} {hsc : (rowsM rt ht : Memref sig (Dev.tc n : Thread nD τ).2.kind .vmem S32x1024 .bf16).view.ref.isScScratch = false}
    {hsrc : (rowsM rs hs).view.WordExact} {hdst : (rowsM rt ht).view.WordExact}
    {hsem : DmaTarget.Typed .vmem (.dma q₂) (.remote (Dev.tc n : Thread nD τ) (rowsM rt ht) (.dma q₁) hsc)}
    (hn : n = nxt c) (hq₁ : q₁ = dS (sIx false a)) (hq₂ : q₂ = dS (rIx false a)) (hrs : rs = 32 * srcP false a) (hrt : rt = 32 * dstP false a)
    (ha : a < 32) (hv : v ≤ a) (hl : a < e + b)
    (hk : iprop(env m ∗ R ∗ st m c e (a + 1) v b a' v' b') ⊢ wpc c (k ⟨⟩) Q) :
    iprop(env m ∗ R ∗ st m c e a v b a' v' b')
      ⊢ wpc c (.op (.enqueueDma (rowsM rs hs) (.remote (Dev.tc n : Thread nD τ) (rowsM rt ht) (.dma q₁) hsc) (.dma q₂) hsrc hdst hsem) k) Q := by
  unfold st owedC
  rw [add_comm (owedLane c false a)]
  iintro ⟨#He, HR, ⟨%W, HO⟩, Hf, Ht, Hrest⟩
  iapply (lane_send m c n false hn hq₁ hq₂ hrs hrt ha hv hl (owedLane c true a') W) $$ [HO Hf]
  · isplitr; · iexact He
    isplitl [HO] <;> iassumption
  iintro ⟨HO, Hf⟩
  iapply hk
  unfold st owedC
  rw [add_comm (owedLane c false (a + 1))]
  isplitr; · iexact He
  isplitl [HR]; · iexact HR
  isplitl [HO]; · iexists W; iexact HO
  isplitl [Hf]; · iexact Hf
  isplitl [Ht] <;> iassumption

theorem send_true {R : sProp 𝕄} {Q : α → sProp 𝕄} {k : PUnit → Prog (TpuEff nD τ sig (Elt F) Λ₀ .tc) α} {n : Dev nD} {rs rt : ℕ} {q₁ q₂ : DmaSem sig}
    {hs} {ht} {hsc : (rowsM rt ht : Memref sig (Dev.tc n : Thread nD τ).2.kind .vmem S32x1024 .bf16).view.ref.isScScratch = false}
    {hsrc : (rowsM rs hs).view.WordExact} {hdst : (rowsM rt ht).view.WordExact}
    {hsem : DmaTarget.Typed .vmem (.dma q₂) (.remote (Dev.tc n : Thread nD τ) (rowsM rt ht) (.dma q₁) hsc)}
    (hn : n = prv c) (hq₁ : q₁ = dS (sIx true a')) (hq₂ : q₂ = dS (rIx true a')) (hrs : rs = 32 * srcP true a') (hrt : rt = 32 * dstP true a')
    (ha : a' < 28) (hv : v' ≤ a') (hl : a' < e + b')
    (hk : iprop(env m ∗ R ∗ st m c e a v b (a' + 1) v' b') ⊢ wpc c (k ⟨⟩) Q) :
    iprop(env m ∗ R ∗ st m c e a v b a' v' b')
      ⊢ wpc c (.op (.enqueueDma (rowsM rs hs) (.remote (Dev.tc n : Thread nD τ) (rowsM rt ht) (.dma q₁) hsc) (.dma q₂) hsrc hdst hsem) k) Q := by
  unfold st owedC
  iintro ⟨#He, HR, ⟨%W, HO⟩, Hf, Ht, Hrest⟩
  iapply (lane_send m c n true hn hq₁ hq₂ hrs hrt ha hv hl (owedLane c false a) W) $$ [HO Ht]
  · isplitr; · iexact He
    isplitl [HO] <;> iassumption
  iintro ⟨HO, Ht⟩
  iapply hk
  unfold st owedC
  isplitr; · iexact He
  isplitl [HR]; · iexact HR
  isplitl [HO]; · iexists W; iexact HO
  isplitl [Hf]; · iexact Hf
  isplitl [Ht] <;> iassumption

theorem recv_false {R : sProp 𝕄} {Q : α → sProp 𝕄} {k : PUnit → Prog (TpuEff nD τ sig (Elt F) Λ₀ .tc) α} {q : DmaSem sig}
    {dst src : Memref sig .tc .vmem S32x1024 .bf16} {hsrc : src.view.WordExact} {hdst : dst.view.WordExact}
    (hq : q = dS (rIx false b)) (hN : dst.view.dmaCredit = N) (he : e = 4) (hb : b < 32) (hl : a ≤ e + b) (h1 : b < a) (h2 : b ≤ a' ∨ 28 ≤ a')
    (hk : iprop(env m ∗ R ∗ st m c e a v (b + 1) a' v' b') ⊢ wpc c (k ⟨⟩) Q) :
    iprop(env m ∗ R ∗ st m c e a v b a' v' b') ⊢ wpc c (.op (.waitDma2 q src dst hsrc hdst) k) Q := by
  unfold st
  iintro ⟨#He, HR, ⟨%W, HO⟩, Hf, Ht, Hrest⟩
  iapply (lane_recv m c false hb hl (by omega) hq hN W (mayWait_of_lt c _ (lvR false b) a a' (le_of_eq (lv_recv c false hb))
    (fun j h _ => by dsimp only [lvR]; omega) (fun j h h' => by dsimp only [lvR]; omega))) $$ [HO Hf]
  · isplitr; · iexact He
    isplitl [HO] <;> iassumption
  iintro ⟨HO, Hf⟩
  iapply hk
  unfold st
  isplitr; · iexact He
  isplitl [HR]; · iexact HR
  isplitl [HO]; · iexists _; iexact HO
  isplitl [Hf]; · iexact Hf
  isplitl [Ht] <;> iassumption

theorem recv_true {R : sProp 𝕄} {Q : α → sProp 𝕄} {k : PUnit → Prog (TpuEff nD τ sig (Elt F) Λ₀ .tc) α} {q : DmaSem sig}
    {dst src : Memref sig .tc .vmem S32x1024 .bf16} {hsrc : src.view.WordExact} {hdst : dst.view.WordExact}
    (hq : q = dS (rIx true b')) (hN : dst.view.dmaCredit = N) (he : e = 4) (hb : b' < 28) (hl : a' ≤ e + b') (h1 : b' < a) (h2 : b' < a' ∨ 28 ≤ a')
    (hk : iprop(env m ∗ R ∗ st m c e a v b a' v' (b' + 1)) ⊢ wpc c (k ⟨⟩) Q) :
    iprop(env m ∗ R ∗ st m c e a v b a' v' b') ⊢ wpc c (.op (.waitDma2 q src dst hsrc hdst) k) Q := by
  unfold st
  iintro ⟨#He, HR, ⟨%W, HO⟩, Hf, Ht, Hrest⟩
  iapply (lane_recv m c true hb hl (by omega) hq hN W (mayWait_of_lt c _ (lvR true b') a a' (le_of_eq (lv_recv c true hb))
    (fun j h _ => by dsimp only [lvR]; omega) (fun j h h' => by dsimp only [lvR]; omega))) $$ [HO Ht]
  · isplitr; · iexact He
    isplitl [HO] <;> iassumption
  iintro ⟨HO, Ht⟩
  iapply hk
  unfold st
  isplitr; · iexact He
  isplitl [HR]; · iexact HR
  isplitl [HO]; · iexists _; iexact HO
  isplitl [Hf]; · iexact Hf
  isplitl [Ht] <;> iassumption

theorem back_false {R : sProp 𝕄} {Q : α → sProp 𝕄} {k : PUnit → Prog (TpuEff nD τ sig (Elt F) Λ₀ .tc) α} {q : DmaSem sig}
    {dst src : Memref sig .tc .vmem S32x1024 .bf16} {hsrc : src.view.WordExact} {hdst : dst.view.WordExact}
    (hq : q = dS (sIx false v)) (hN : dst.view.dmaCredit = N) (hv : v < a) (ha : a ≤ 32)
    (hk : iprop(env m ∗ R ∗ st m c e a (v + 1) b a' v' b') ⊢ wpc c (k ⟨⟩) Q) :
    iprop(env m ∗ R ∗ st m c e a v b a' v' b') ⊢ wpc c (.op (.waitDma2 q src dst hsrc hdst) k) Q := by
  unfold st
  iintro ⟨#He, HR, ⟨%W, HO⟩, Hf, Ht, Hrest⟩
  iapply (lane_back m c false hv ha hq hN W (mayWait_of_lt c _ 0 a a' (le_of_eq (lv_send c false (hv.trans_le ha)))
    (fun j h _ => by dsimp only [lvR]; omega) (fun j h h' => by dsimp only [lvR]; omega))) $$ [HO Hf]
  · isplitr; · iexact He
    isplitl [HO] <;> iassumption
  iintro ⟨HO, Hf⟩
  iapply hk
  unfold st
  isplitr; · iexact He
  isplitl [HR]; · iexact HR
  isplitl [HO]; · iexists _; iexact HO
  isplitl [Hf]; · iexact Hf
  isplitl [Ht] <;> iassumption

theorem back_true {R : sProp 𝕄} {Q : α → sProp 𝕄} {k : PUnit → Prog (TpuEff nD τ sig (Elt F) Λ₀ .tc) α} {q : DmaSem sig}
    {dst src : Memref sig .tc .vmem S32x1024 .bf16} {hsrc : src.view.WordExact} {hdst : dst.view.WordExact}
    (hq : q = dS (sIx true v')) (hN : dst.view.dmaCredit = N) (hv : v' < a') (ha : a' ≤ 28)
    (hk : iprop(env m ∗ R ∗ st m c e a v b a' (v' + 1) b') ⊢ wpc c (k ⟨⟩) Q) :
    iprop(env m ∗ R ∗ st m c e a v b a' v' b') ⊢ wpc c (.op (.waitDma2 q src dst hsrc hdst) k) Q := by
  unfold st
  iintro ⟨#He, HR, ⟨%W, HO⟩, Hf, Ht, Hrest⟩
  iapply (lane_back m c true hv ha hq hN W (mayWait_of_lt c _ 0 a a' (le_of_eq (lv_send c true (hv.trans_le ha)))
    (fun j h _ => by dsimp only [lvR]; omega) (fun j h h' => by dsimp only [lvR]; omega))) $$ [HO Ht]
  · isplitr; · iexact He
    isplitl [HO] <;> iassumption
  iintro ⟨HO, Ht⟩
  iapply hk
  unfold st
  isplitr; · iexact He
  isplitl [HR]; · iexact HR
  isplitl [HO]; · iexists _; iexact HO
  isplitl [Hf]; · iexact Hf
  isplitl [Ht] <;> iassumption

end Moves

/-! ## The device's own products -/

abbrev rowsR (row : ℕ) (h : ∀ a, (![row, 0] : Fin 2 → ℕ) a + S32x1024.size a ≤ S2048x1024.size a) : Rect S2048x1024 :=
  Rect.unit (s := S2048x1024) ![row, 0] S32x1024.size h

theorem rowsR_set (p row : ℕ) (hr : row = 32 * p) (h) : (commM.access (rowsR row h)).set = piece p := rows_set p row hr h

/-- Storing the product for own expert `e` leaves in piece `e` what the buffer is to hold there. -/
theorem store_contents (c : Dev nD) {e : ℕ} (he : e < 4) (h : ∀ a, (![32 * e, 0] : Fin 2 → ℕ) a + S32x1024.size a ≤ S2048x1024.size a) (f : (cc0_scratch0 : Ref sig .tc).ty.Contents (Elt F))
    (w : S32x1024.Idx → Elt F .bf16) (hw : w = product (word c) (ids m c) (xs m c) (ws m c) e)
    (i : S2048x1024.Idx) (hi : i ∈ piece e) :
    ((rowsM (32 * e) h).view.write (Elt F) f w Finset.univ : S2048x1024.Idx → Elt F .bf16) i
      = (full m c : S2048x1024.Idx → Elt F .bf16) i := by
  subst hw
  have hi' : i ∈ (rowsM (32 * e) h).view.set := by rw [rows_set _ _ rfl]; exact hi
  obtain ⟨x, -, rfl⟩ := Finset.mem_map.mp hi'
  rw [View.write_emb_of_mem _ _ (Finset.mem_univ x)]
  refine (cast_eq _ _).trans ?_
  have h1 := rows_emb (32 * e) h x
  have hx : (x ⟨0, Nat.zero_lt_two⟩).val < 32 := (x ⟨0, Nat.zero_lt_two⟩).isLt
  have hc : ahead c ((32 * e + (x ⟨0, Nat.zero_lt_two⟩).val) / 128) = c := by
    have hc : c.val < 16 := c.isLt
    apply Fin.ext; show (c.val + (32 * e + (x ⟨0, Nat.zero_lt_two⟩).val) / 128) % 16 = c.val
    omega
  have hq : (32 * e + (x ⟨0, Nat.zero_lt_two⟩).val) / 32 % 4 = e := by omega
  have hx' : at32 (32 * e + (x ⟨0, Nat.zero_lt_two⟩).val) (x ⟨1, Nat.one_lt_two⟩) = x := by
    funext u
    match u with
    | ⟨0, _⟩ => exact Fin.ext (show (32 * e + (x ⟨0, Nat.zero_lt_two⟩).val) % 32 = (x ⟨0, Nat.zero_lt_two⟩).val by omega)
    | ⟨1, _⟩ => rfl
  have key : ∀ (r : ℕ) (j : Fin 1024), r = 32 * e + (x ⟨0, Nat.zero_lt_two⟩).val → j = x ⟨1, Nat.one_lt_two⟩ →
      product (word c) (ids m c) (xs m c) (ws m c) e x = product (word (ahead c (r / 128))) (ids m (ahead c (r / 128))) (xs m (ahead c (r / 128))) (ws m (ahead c (r / 128))) (r / 32 % 4) (at32 r j) := by
    intro r j hr hj
    rw [hr, hj, hc, hq, hx']
  exact key _ _ h1.1 h1.2

section Own
variable {c : Dev nD} {e a v b a' v' b' : ℕ} {α : Type}

theorem store_own {R : sProp 𝕄} {Q : α → sProp 𝕄} {k : PUnit → Prog (TpuEff nD τ sig (Elt F) Λ₀ .tc) α} {row : ℕ} {h} {w : S32x1024.Idx → Elt F .bf16} {hx : (commM.access (rowsR row h)).Stores Finset.univ}
    {hm : (Finset.univ : Finset (rowsR row h).shape.Idx) = Finset.univ ∨ ∀ a, (rowsR row h).stride a = 1}
    (hr : row = 32 * e) (he : e < 4) (ha : a ≤ e) (ha' : a' ≤ e) (hb : b = 0) (hb' : b' = 0)
    (hw : w = product (word c) (ids m c) (xs m c) (ws m c) e)
    (hk : iprop(env m ∗ R ∗ st m c (e + 1) a v b a' v' b') ⊢ wpc c (k ⟨⟩) Q) :
    iprop(env m ∗ R ∗ st m c e a v b a' v' b') ⊢ wpc c (.op (.store commM (rowsR row h) w Finset.univ hx hm) k) Q := by
  subst hr hb hb'
  have hS : (commM.access (rowsR (32 * e) h)).setOn Finset.univ ⊆ piece e := (rowsR_set e _ rfl h).subset
  have hcont : ∀ f : (cc0_scratch0 : Ref sig .tc).ty.Contents (Elt F),
      ((c : Thread nD τ).loc cc0_scratch0 ↦[piece e]{fullShare} ((commM.access (rowsR (32 * e) h)).write (Elt F) f w Finset.univ) : sProp 𝕄)
        = iprop(pc m c e fullShare.left ∗ pc m c e fullShare.right.left ∗ pc m c e fullShare.right.right) := by
    intro f
    rw [← pc_quarters, ← pc_halves]
    exact pointsTo_congr fun i hi => store_contents m c he h f w hw i hi
  unfold st lane anyPc
  rw [bigSep_Ico_bot he]
  iintro ⟨#He, HR, HO, ⟨F1, F2, F3, F4, F5, F6⟩, ⟨T1, T2, T3, T4, T5, T6⟩, ⟨⟨%f, Hp⟩, Hrest⟩, Hown⟩
  iapply (wp_store 𝒱₀ (c : Thread nD τ) none Set.univ (m := commM) (r := rowsR (32 * e) h) (Mk := Finset.univ) (S := piece e) (f := f) hS) $$ [Hp]
  · iexact Hp
  iintro Hp
  ihave Hp := (Entails.of_eq (hcont f)) $$ Hp
  icases Hp with ⟨Hp1, Hp2, Hp3⟩
  iapply hk
  unfold st lane anyPc
  rw [bigSep_Ico_top (Nat.zero_le e), show e + 1 + 0 = (e + 0) + 1 from rfl, bigSep_Ico_top (b := e + 0) ha, bigSep_Ico_top (b := e + 0) ha']
  isplitr; · iexact He
  isplitl [HR]; · iexact HR
  isplitl [HO]; · iexact HO
  isplitl [F1 F2 F3 F4 F5 F6 Hp2]
  · isplitl [F1]; · iexact F1
    isplitl [F2]; · iexact F2
    isplitl [F3]; · iexact F3
    isplitl [F4]; · iexact F4
    isplitl [F5]; · iexact F5
    isplitl [Hp2]
    · unfold lent lentQ; dsimp only; rw [if_pos (by omega), show srcP false (e + 0) = e by show 4 * ((16 - e / 4) % 16) + e % 4 = e; omega]; iexact Hp2
    iexact F6
  isplitl [T1 T2 T3 T4 T5 T6 Hp3]
  · isplitl [T1]; · iexact T1
    isplitl [T2]; · iexact T2
    isplitl [T3]; · iexact T3
    isplitl [T4]; · iexact T4
    isplitl [T5]; · iexact T5
    isplitl [Hp3]
    · unfold lent lentQ; dsimp only; rw [if_pos (by omega), show srcP true (e + 0) = e from rfl]; iexact Hp3
    iexact T6
  isplitl [Hrest]; · iexact Hrest
  isplitl [Hp1] <;> iassumption

/-- Reading a piece that is still to be written: whatever is read, the state stays. -/
theorem load_own {row : ℕ} {h} {hl : commM.view.LoadsAt (rowsR row h).toLoadRect} {R : sProp 𝕄} {Q : α → sProp 𝕄} {k : (S32x1024.Idx → Elt F .bf16) → Prog (TpuEff nD τ sig (Elt F) Λ₀ .tc) α}
    (hr : row = 32 * e) (he : e < 4) (hk : ∀ w, iprop(env m ∗ R ∗ st m c e a v b a' v' b') ⊢ wpc c (k w) Q) :
    iprop(env m ∗ R ∗ st m c e a v b a' v' b') ⊢ wpc c (.op (.load commM (rowsR row h).toLoadRect hl) k) Q := by
  subst hr
  have h0 : iprop(env m ∗ R ∗ st m c e a v b a' v' b') ⊢ iprop(∃ f, (env m ∗ R ∗ (((c : Thread nD τ).loc cc0_scratch0 ↦[piece e]{fullShare} f) -∗ st m c e a v b a' v' b')) ∗ ((c : Thread nD τ).loc cc0_scratch0 ↦[piece e]{fullShare} f)) := by
    unfold st
    rw [bigSep_Ico_bot he]
    unfold anyPc
    iintro ⟨#He, HR, HO, HF, HT, ⟨⟨%f, Hp⟩, Hrest⟩, Hown⟩
    iexists f
    isplitl [HR HO HF HT Hrest Hown]
    · isplitr; · iexact He
      isplitl [HR]; · iexact HR
      iintro Hp
      isplitl [HO]; · iexact HO
      isplitl [HF]; · iexact HF
      isplitl [HT]; · iexact HT
      isplitl [Hp Hrest]
      · isplitl [Hp]; · iexists f; iexact Hp
        iexact Hrest
      iexact Hown
    iexact Hp
  refine h0.trans ?_
  iintro ⟨%f, ⟨#He, HR, Hst⟩, Hp⟩
  iapply (wp_load_rect 𝒱₀ (c : Thread nD τ) none Set.univ (m := commM) (r := rowsR (32 * e) h) (S := piece e) (f := f) (q := fullShare)
    (rowsR_set e _ rfl h).subset) $$ [Hp]
  · iexact Hp
  iintro Hp
  iapply hk
  isplitr; · iexact He
  isplitl [HR]; · iexact HR
  iapply Hst; iexact Hp

end Own

end Cert.Exchange

end
-- ==== Proof.Chain.lean ====
module

public import proofs.«01_k».proof.Proof.Moves
@[expose] public section

/-! How the body is put together from its parts, and the reads of the staged inputs. -/

noncomputable section
namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

/-- One part and what follows it, for a part whose result is known. -/
theorem seq {c : Dev nD} {α β : Type} {P : sProp 𝕄} {p : Prog (TpuEff nD τ sig (Elt F) Λ₀ .tc) α} {k : α → Prog (TpuEff nD τ sig (Elt F) Λ₀ .tc) β}
    {Q : β → sProp 𝕄} (v : α) (P' : sProp 𝕄)
    (hk : P' ⊢ wpc c (k v) Q) (hp : P ⊢ wpc c p (fun x => iprop(⌜x = v⌝ ∗ P'))) : P ⊢ wpc c (p >>= k) Q := by
  unfold wpc at *
  rw [wp_bind]
  refine hp.trans (wp_mono _ _ _ fun x => ?_)
  iintro ⟨%hx, H⟩
  subst hx
  iapply hk
  iexact H

/-- The same for a part whose result does not matter. -/
theorem seq_any {c : Dev nD} {α β : Type} {P : sProp 𝕄} {p : Prog (TpuEff nD τ sig (Elt F) Λ₀ .tc) α} {k : α → Prog (TpuEff nD τ sig (Elt F) Λ₀ .tc) β}
    {Q : β → sProp 𝕄} (P' : sProp 𝕄)
    (hk : ∀ x, P' ⊢ wpc c (k x) Q) (hp : P ⊢ wpc c p (fun _ => P')) : P ⊢ wpc c (p >>= k) Q := by
  unfold wpc at *
  rw [wp_bind]
  exact hp.trans (wp_mono _ _ _ hk)

/-- The same for a part of whose result something is known. -/
theorem seq_rel {c : Dev nD} {α β : Type} {P : sProp 𝕄} {p : Prog (TpuEff nD τ sig (Elt F) Λ₀ .tc) α} {k : α → Prog (TpuEff nD τ sig (Elt F) Λ₀ .tc) β}
    {Q : β → sProp 𝕄} (φ : α → Prop) (P' : sProp 𝕄)
    (hk : ∀ x, φ x → P' ⊢ wpc c (k x) Q) (hp : P ⊢ wpc c p (fun x => iprop(⌜φ x⌝ ∗ P'))) : P ⊢ wpc c (p >>= k) Q := by
  unfold wpc at *
  rw [wp_bind]
  refine hp.trans (wp_mono _ _ _ fun x => ?_)
  iintro ⟨%hx, H⟩
  iapply (hk x hx)
  iexact H

/-- The same for a part without operations. -/
theorem seq_pure {c : Dev nD} {α β : Type} {P : sProp 𝕄} {p : Prog (TpuEff nD τ sig (Elt F) Λ₀ .tc) α} {k : α → Prog (TpuEff nD τ sig (Elt F) Λ₀ .tc) β}
    {Q : β → sProp 𝕄} {v : α} (hp : p = .ret v) (hk : P ⊢ wpc c (k v) Q) : P ⊢ wpc c (p >>= k) Q := by
  subst hp
  exact hk

theorem done_rel {c : Dev nD} {α : Type} {P : sProp 𝕄} {x : α} {φ : α → Prop} (h : φ x) : P ⊢ wpc c (.ret x) (fun x => iprop(⌜φ x⌝ ∗ P)) := by
  refine BIBase.Entails.trans (Q := iprop(⌜φ x⌝ ∗ P)) ?_ fupd_intro
  iintro H
  isplitr
  · ipureintro; exact h
  · iexact H

theorem done_any {c : Dev nD} {α : Type} {P : sProp 𝕄} {x : α} : P ⊢ wpc c (.ret x) (fun _ => P) := fupd_intro

theorem done {c : Dev nD} {α : Type} {P : sProp 𝕄} {x v : α} (h : x = v) : P ⊢ wpc c (.ret x) (fun x => iprop(⌜x = v⌝ ∗ P)) := by
  refine BIBase.Entails.trans (Q := iprop(⌜x = v⌝ ∗ P)) ?_ fupd_intro
  iintro H
  isplitr
  · ipureintro; exact h
  · iexact H

theorem end_any {c : Dev nD} {α : Type} {P P' : sProp 𝕄} {x : α} (h : P ⊢ P') : P ⊢ wpc c (.ret x) (fun _ => P') := h.trans done_any
theorem end_val {c : Dev nD} {α : Type} {P P' : sProp 𝕄} {x v : α} (hx : x = v) (h : P ⊢ P') : P ⊢ wpc c (.ret x) (fun x => iprop(⌜x = v⌝ ∗ P')) := h.trans (done hx)
theorem end_rel {c : Dev nD} {α : Type} {P P' : sProp 𝕄} {x : α} {φ : α → Prop} (hx : φ x) (h : P ⊢ P') : P ⊢ wpc c (.ret x) (fun x => iprop(⌜φ x⌝ ∗ P')) :=
  h.trans (done_rel hx)

/-! The kind of the next operation. -/

theorem is_send {c : Dev nD} {α : Type} {P : sProp 𝕄} {Q : α → sProp 𝕄} {n : Dev nD} {src : Memref sig .tc .vmem S32x1024 .bf16}
    {dst : Memref sig (Dev.tc n : Thread nD τ).2.kind .vmem S32x1024 .bf16} {q₁ q₂ : SemLoc sig} {hsc : dst.view.ref.isScScratch = false}
    {h₁ : src.view.WordExact} {h₂ : dst.view.WordExact} {h₃ : DmaTarget.Typed .vmem q₂ (.remote (Dev.tc n : Thread nD τ) dst q₁ hsc)}
    {k : PUnit → Prog (TpuEff nD τ sig (Elt F) Λ₀ .tc) α}
    (h : P ⊢ wpc c (.op (.enqueueDma src (.remote (Dev.tc n : Thread nD τ) dst q₁ hsc) q₂ h₁ h₂ h₃) k) Q) :
    P ⊢ wpc c (.op (.enqueueDma src (.remote (Dev.tc n : Thread nD τ) dst q₁ hsc) q₂ h₁ h₂ h₃) k) Q := h
theorem is_wait {c : Dev nD} {α : Type} {P : sProp 𝕄} {Q : α → sProp 𝕄} {q : DmaSem sig} {src dst : Memref sig .tc .vmem S32x1024 .bf16} {h₁ h₂} {k : PUnit → Prog (TpuEff nD τ sig (Elt F) Λ₀ .tc) α}
    (h : P ⊢ wpc c (.op (.waitDma2 q src dst h₁ h₂) k) Q) : P ⊢ wpc c (.op (.waitDma2 q src dst h₁ h₂) k) Q := h
theorem is_store {c : Dev nD} {α : Type} {P : sProp 𝕄} {Q : α → sProp 𝕄} {r v Mk h₁ h₂} {k : PUnit → Prog (TpuEff nD τ sig (Elt F) Λ₀ .tc) α}
    (h : P ⊢ wpc c (.op (.store commM r v Mk h₁ h₂) k) Q) : P ⊢ wpc c (.op (.store commM r v Mk h₁ h₂) k) Q := h
theorem is_load_w {c : Dev nD} {α : Type} {P : sProp 𝕄} {Q : α → sProp 𝕄} {r h₁} {k : _ → Prog (TpuEff nD τ sig (Elt F) Λ₀ .tc) α}
    (h : P ⊢ wpc c (.op (.load (Memref.whole cc0_stg2_0) r h₁) k) Q) : P ⊢ wpc c (.op (.load (Memref.whole cc0_stg2_0) r h₁) k) Q := h
theorem is_load {c : Dev nD} {α : Type} {P : sProp 𝕄} {Q : α → sProp 𝕄} {r h₁} {k : _ → Prog (TpuEff nD τ sig (Elt F) Λ₀ .tc) α}
    (h : P ⊢ wpc c (.op (.load commM r h₁) k) Q) : P ⊢ wpc c (.op (.load commM r h₁) k) Q := h

/-- The staged inputs of device `c`, whole. -/
def inputs (c : Dev nD) : sProp 𝕄 :=
  iprop(((c : Thread nD τ).loc cc0_stg0_0 ↦{fullShare} xs m c) ∗ ((c : Thread nD τ).loc cc0_stg1_0 ↦{fullShare} ids m c)
    ∗ ((c : Thread nD τ).loc cc0_stg2_0 ↦{fullShare} ws m c))

section Loads
variable {c : Dev nD} {α : Type}

theorem load_x {S R : sProp 𝕄} {Q : α → sProp 𝕄} {h} {hl} {k : _ → Prog (TpuEff nD τ sig (Elt F) Λ₀ .tc) α}
    (hk : iprop(env m ∗ (inputs m c ∗ R) ∗ S) ⊢ wpc c (k (xs m c)) Q) :
    iprop(env m ∗ (inputs m c ∗ R) ∗ S)
      ⊢ wpc c (.op (.load (Memref.whole cc0_stg0_0) (Rect.unit (s := S2048x512) ![0, 0] S2048x512.size h).toLoadRect hl) k) Q := by
  have hz : (![0, 0] : Fin 2 → Nat) = fun _ => 0 := by funext i; fin_cases i <;> rfl
  have hread : (Memref.whole cc0_stg0_0 : Memref sig .tc .vmem S2048x512 .bf16).view.readAt (Elt F) (Rect.unit ![0, 0] S2048x512.size h).toLoadRect (xs m c) = xs m c :=
    Memref.readAt_unit_zero (Elt F) cc0_stg0_0 hz _ _
  iintro ⟨#He, ⟨Hi, HR⟩, HS⟩
  unfold inputs
  icases Hi with ⟨Hx, Hi⟩
  iapply (wp_load 𝒱₀ (c : Thread nD τ) none Set.univ (m := Memref.whole cc0_stg0_0) (Finset.subset_univ _)) $$ Hx
  iintro Hx
  rw [hread]
  iapply hk
  unfold inputs
  isplitr; · iexact He
  isplitl [Hx Hi HR]
  · isplitl [Hx Hi]
    · isplitl [Hx] <;> iassumption
    · iexact HR
  · iexact HS

theorem load_ids {S R : sProp 𝕄} {Q : α → sProp 𝕄} {h} {hl} {k : _ → Prog (TpuEff nD τ sig (Elt F) Λ₀ .tc) α}
    (hk : iprop(env m ∗ (inputs m c ∗ R) ∗ S) ⊢ wpc c (k (ids m c)) Q) :
    iprop(env m ∗ (inputs m c ∗ R) ∗ S)
      ⊢ wpc c (.op (.load (Memref.whole cc0_stg1_0) (Rect.unit (s := S2048x1) ![0, 0] S2048x1.size h).toLoadRect hl) k) Q := by
  have hz : (![0, 0] : Fin 2 → Nat) = fun _ => 0 := by funext i; fin_cases i <;> rfl
  have hread : (Memref.whole cc0_stg1_0 : Memref sig .tc .vmem S2048x1 .i32).view.readAt (Elt F) (Rect.unit ![0, 0] S2048x1.size h).toLoadRect (ids m c) = ids m c :=
    Memref.readAt_unit_zero (Elt F) cc0_stg1_0 hz _ _
  iintro ⟨#He, ⟨Hi, HR⟩, HS⟩
  unfold inputs
  icases Hi with ⟨Hx, Hi, Hw⟩
  iapply (wp_load 𝒱₀ (c : Thread nD τ) none Set.univ (m := Memref.whole cc0_stg1_0) (Finset.subset_univ _)) $$ Hi
  iintro Hi
  rw [hread]
  iapply hk
  unfold inputs
  isplitr; · iexact He
  isplitl [Hx Hi Hw HR]
  · isplitl [Hx Hi Hw]
    · isplitl [Hx]; · iexact Hx
      isplitl [Hi] <;> iassumption
    · iexact HR
  · iexact HS

theorem load_w {S R : sProp 𝕄} {Q : α → sProp 𝕄} {r : LoadRect S4x512x1024} {hl} {k : _ → Prog (TpuEff nD τ sig (Elt F) Λ₀ .tc) α}
    (hk : iprop(env m ∗ (inputs m c ∗ R) ∗ S) ⊢ wpc c (k ((Memref.whole cc0_stg2_0 : Memref sig .tc .vmem S4x512x1024 .bf16).view.readAt (Elt F) r (ws m c))) Q) :
    iprop(env m ∗ (inputs m c ∗ R) ∗ S) ⊢ wpc c (.op (.load (Memref.whole cc0_stg2_0) r hl) k) Q := by
  iintro ⟨#He, ⟨Hi, HR⟩, HS⟩
  unfold inputs
  icases Hi with ⟨Hx, Hi, Hw⟩
  iapply (wp_load 𝒱₀ (c : Thread nD τ) none Set.univ (m := Memref.whole cc0_stg2_0) (Finset.subset_univ _)) $$ Hw
  iintro Hw
  iapply hk
  unfold inputs
  isplitr; · iexact He
  isplitl [Hx Hi Hw HR]
  · isplitl [Hx Hi Hw]
    · isplitl [Hx]; · iexact Hx
      isplitl [Hi] <;> iassumption
    · iexact HR
  · iexact HS

end Loads

end Cert.Exchange
-- ==== Proof.Pieces.lean ====
/-
The exchange buffer cut into its pieces by the lane that fills them, and put together again.
-/
module

public import proofs.«01_k».proof.Proof.Chain

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Intervals, again -/

omit [FloatOps F] in
theorem two_ways {P Q : sProp 𝕄} (h : P ⊢ Q) (h' : Q ⊢ P) : P = Q := BI.Entails.antisymm h h'
omit [FloatOps F] in
theorem bigSep_le {s : Finset ℕ} {Φ Ψ : ℕ → sProp 𝕄} (h : ∀ i ∈ s, Φ i ⊢ Ψ i) : (bigSep s Φ : sProp 𝕄) ⊢ bigSep s Ψ := bigSep_mono h

omit [FloatOps F] in
theorem bigSep_Ico_cat {a b c : ℕ} (h : a ≤ b) (h' : b ≤ c) (Φ : ℕ → sProp 𝕄) :
    bigSep (Finset.Ico a c) Φ = iprop(bigSep (Finset.Ico a b) Φ ∗ bigSep (Finset.Ico b c) Φ) := by
  rw [← Finset.Ico_union_Ico_eq_Ico h h', bigSep_union (Finset.Ico_disjoint_Ico_consecutive a b c)]
  rfl

omit [FloatOps F] in
theorem bigSep_reindex {f : ℕ → ℕ} {s t : Finset ℕ} (hf : ∀ i ∈ s, ∀ j ∈ s, f i = f j → i = j) (ht : t = s.image f) (Φ : ℕ → sProp 𝕄) :
    bigSep t Φ = bigSep s fun j => Φ (f j) := by
  subst ht
  induction s using Finset.induction_on with
  | empty => rw [Finset.image_empty, bigSep_empty, bigSep_empty]
  | insert a s ha ih =>
    rw [Finset.image_insert, bigSep_insert (fun hm => ?_), bigSep_insert ha, ih fun i hi j hj => hf i (Finset.mem_insert_of_mem hi) j (Finset.mem_insert_of_mem hj)]
    obtain ⟨b, hb, e⟩ := Finset.mem_image.mp hm
    exact ha (hf b (Finset.mem_insert_of_mem hb) a (Finset.mem_insert_self _ _) e ▸ hb)

omit [FloatOps F] in
theorem bigSep_shift (k n : ℕ) (Φ : ℕ → sProp 𝕄) : bigSep (Finset.Ico k (k + n)) Φ = bigSep (Finset.Ico 0 n) fun j => Φ (k + j) := by
  refine bigSep_reindex (f := fun j => k + j) (fun i _ j _ h => by omega) ?_ Φ
  ext i
  rw [Finset.mem_image, Finset.mem_Ico]
  constructor
  · intro h; exact ⟨i - k, Finset.mem_Ico.mpr (by omega), by omega⟩
  · rintro ⟨j, hj, rfl⟩; have := Finset.mem_Ico.mp hj; omega

/-! ## The three parts of the buffer -/

omit [FloatOps F] in
/-- The pieces are a device's own four and those the two lanes fill. -/
theorem deal (Φ : ℕ → sProp 𝕄) :
    bigSep (Finset.range 64) Φ = iprop(bigSep (Finset.Ico 0 4) Φ ∗ bigSep (Finset.Ico 0 32) (fun j => Φ (dstP false j)) ∗ bigSep (Finset.Ico 0 28) (fun j => Φ (dstP true j))) := by
  have hcw : bigSep (Finset.Ico 32 64) Φ = bigSep (Finset.Ico 0 32) fun j => Φ (dstP false j) := by
    refine bigSep_reindex (f := dstP false) (fun i hi j hj h => ?_) ?_ Φ
    · have hi := Finset.mem_Ico.mp hi
      have hj := Finset.mem_Ico.mp hj
      have h : 4 * (15 - i / 4) + i % 4 = 4 * (15 - j / 4) + j % 4 := h
      omega
    · ext i
      rw [Finset.mem_image, Finset.mem_Ico]
      constructor
      · intro h
        refine ⟨4 * (15 - i / 4) + i % 4, Finset.mem_Ico.mpr (by omega), ?_⟩
        show 4 * (15 - (4 * (15 - i / 4) + i % 4) / 4) + (4 * (15 - i / 4) + i % 4) % 4 = i
        omega
      · rintro ⟨j, hj, rfl⟩
        have := Finset.mem_Ico.mp hj
        show 32 ≤ 4 * (15 - j / 4) + j % 4 ∧ 4 * (15 - j / 4) + j % 4 < 64
        omega
  have hccw : bigSep (Finset.Ico 4 32) Φ = bigSep (Finset.Ico 0 28) fun j => Φ (dstP true j) := by
    refine (bigSep_shift 4 28 Φ).trans (bigSep_congr fun j _ => ?_)
    rw [add_comm]; rfl
  rw [Finset.range_eq_Ico, bigSep_Ico_cat (b := 4) (by omega) (by omega), bigSep_Ico_cat (a := 4) (b := 32) (by omega) (by omega), hcw, hccw]
  refine two_ways ?_ ?_ <;>
    · iintro ⟨H1, H2, H3⟩
      isplitl [H1]; · iexact H1
      isplitl [H3] <;> iassumption

omit [FloatOps F] in
/-- The whole buffer is its pieces. -/
theorem whole_pieces (c : Dev nD) (q : PosShare TreeShare) (f : Buf (Elt F) ((c : Thread nD τ).loc cc0_scratch0)) :
    ((c : Thread nD τ).loc cc0_scratch0 ↦{q} f : sProp 𝕄) = bigSep (Finset.range 64) fun p => (c : Thread nD τ).loc cc0_scratch0 ↦[piece p]{q} f := by
  have h := pointsTo_biUnion (Ix := Unit) (Name := ℕ) (U := UU) (Lvl := ℕ) (ℓ := (c : Thread nD τ).loc cc0_scratch0) (q := q) (f := f) (Finset.range 64) piece
    (fun i _ j _ h => piece_disjoint h)
  rw [piece_union] at h
  exact h

omit [FloatOps F] in
/-- A buffer of unknown contents, as the pieces it is dealt into. -/
theorem scratch_dealt (c : Dev nD) :
    iprop(∃ f : Buf (Elt F) ((c : Thread nD τ).loc cc0_scratch0), (c : Thread nD τ).loc cc0_scratch0 ↦{fullShare} f)
      ⊢ (iprop(bigSep (Finset.Ico 0 4) (anyPc c) ∗ bigSep (Finset.Ico 0 32) (fun j => anyPc c (dstP false j)) ∗ bigSep (Finset.Ico 0 28) (fun j => anyPc c (dstP true j))) : sProp 𝕄) := by
  rw [← deal]
  iintro ⟨%f, H⟩
  ihave H := (Entails.of_eq (whole_pieces c fullShare f)) $$ H
  iapply (bigSep_le (fun p _ => show ((c : Thread nD τ).loc cc0_scratch0 ↦[piece p]{fullShare} f : sProp 𝕄) ⊢ anyPc c p from by
    unfold anyPc; iintro H; iexists f; iexact H)) $$ H

/-- The kept halves of all pieces are a half of the finished buffer. -/
theorem half_whole (c : Dev nD) :
    ((c : Thread nD τ).loc cc0_scratch0 ↦{fullShare.left} full m c : sProp 𝕄)
      = iprop(bigSep (Finset.Ico 0 4) (fun p => pc m c p fullShare.left) ∗ bigSep (Finset.Ico 0 32) (fun j => pc m c (dstP false j) fullShare.left)
          ∗ bigSep (Finset.Ico 0 28) (fun j => pc m c (dstP true j) fullShare.left)) := by
  rw [← deal (fun p => pc m c p fullShare.left)]
  exact whole_pieces c _ _

/-! ## What a lane lends comes back -/

/-- The pieces that a lane lent: a quarter of each of the device's own four, and the other halves of those that the lane filled. -/
theorem lent_all (c : Dev nD) (d : Bool) :
    bigSep (Finset.Ico 0 (len d + 4)) (lent m c d)
      = iprop(bigSep (Finset.Ico 0 4) (lent m c d) ∗ bigSep (Finset.Ico 0 (len d)) (fun j => pc m c (dstP d j) fullShare.right)) := by
  rw [bigSep_Ico_cat (b := 4) (by omega) (by omega), add_comm (len d) 4, bigSep_shift 4 (len d)]
  congr 1
  refine bigSep_congr fun j hj => ?_
  rw [add_comm 4 j, lent_add_four m c d (Finset.mem_Ico.mp hj).2]

theorem lent_own (c : Dev nD) {j : ℕ} (h : j < 4) :
    iprop(pc m c j fullShare.left ∗ lent m c false j ∗ lent m c true j) = pc m c j fullShare := by
  have h1 : srcP false j = j := by show 4 * ((16 - j / 4) % 16) + j % 4 = j; omega
  have h2 : lentQ false j = fullShare.right.left := if_pos h
  have h3 : lentQ true j = fullShare.right.right := if_pos h
  unfold lent
  rw [h1, h2, h3, pc_halves m c j, pc_quarters m c j]
  rfl

/-- A lane that is over: its pieces and counters. -/
theorem lane_over (c : Dev nD) (d : Bool) :
    lane m c d (len d) (len d) (len d) (4 + len d)
      ⊢ iprop(bigSep (Finset.Ico 0 4) (lent m c d) ∗ bigSep (Finset.Ico 0 (len d)) (fun j => pc m c (dstP d j) fullShare)
          ∗ bigSep (Finset.Ico 0 (len d)) (fun j => semVal (dCell c (sIx d j)) 0) ∗ bigSep (Finset.Ico 0 (len d)) (fun j => semVal (dCell c (rIx d j)) 0)) := by
  unfold lane returned landed
  rw [bigSep_sep', bigSep_sep', add_comm 4]
  iintro ⟨-, -, ⟨Hl, Hs⟩, -, ⟨Hp, Hr⟩, Hl'⟩
  ihave Hl := (Entails.of_eq (bigSep_Ico_cat (Nat.zero_le _) (Nat.le_add_right (len d) 4) (lent m c d)).symm) $$ [Hl Hl']
  · isplitl [Hl] <;> iassumption
  ihave Hl := (Entails.of_eq (lent_all m c d)) $$ Hl
  icases Hl with ⟨Hl, Hq⟩
  isplitl [Hl]; · iexact Hl
  isplitl [Hp Hq]
  · ihave H := (Entails.of_eq (bigSep_sep' (Finset.Ico 0 (len d)) (fun j => pc m c (dstP d j) fullShare.left) (fun j => pc m c (dstP d j) fullShare.right)).symm) $$ [Hp Hq]
    · isplitl [Hp] <;> iassumption
    iapply (Entails.of_eq (bigSep_congr fun j _ => (pc_halves m c (dstP d j)).symm)) $$ H
  isplitl [Hs] <;> iassumption

omit [FloatOps F] in
/-- The DMA counters of both lanes are all those the kernel uses. -/
theorem counters (c : Dev nD) (Φ : ℕ → sProp 𝕄) :
    bigSep (Finset.Ico 4 124) Φ
      = iprop((bigSep (Finset.Ico 0 (len false)) (fun j => Φ (sIx false j)) ∗ bigSep (Finset.Ico 0 (len false)) (fun j => Φ (rIx false j)))
          ∗ bigSep (Finset.Ico 0 (len true)) (fun j => Φ (sIx true j)) ∗ bigSep (Finset.Ico 0 (len true)) (fun j => Φ (rIx true j))) := by
  rw [bigSep_Ico_cat (b := 68) (by omega) (by omega), bigSep_Ico_cat (a := 4) (b := 36) (by omega) (by omega), bigSep_Ico_cat (a := 68) (b := 96) (by omega) (by omega)]
  rw [show bigSep (Finset.Ico 4 36) Φ = _ from bigSep_shift 4 32 Φ, show bigSep (Finset.Ico 36 68) Φ = _ from bigSep_shift 36 32 Φ,
    show bigSep (Finset.Ico 68 96) Φ = _ from bigSep_shift 68 28 Φ, show bigSep (Finset.Ico 96 124) Φ = _ from bigSep_shift 96 28 Φ]
  rfl

/-- What a device holds when its program is over. -/
theorem st_over (c : Dev nD) :
    st m c 4 32 32 32 28 28 28
      ⊢ iprop((∃ W, owes (c : Thread nD τ) 0 W) ∗ (∃ f : Buf (Elt F) ((c : Thread nD τ).loc cc0_scratch0), (c : Thread nD τ).loc cc0_scratch0 ↦{fullShare} f)
          ∗ bigSep (Finset.Ico 4 124) fun n => semVal (dCell c n) 0) := by
  have h0 : owedC c 32 28 = 0 := by
    unfold owedC owedLane
    rw [show Finset.Ico 32 (len false) = ∅ from rfl, show Finset.Ico 28 (len true) = ∅ from rfl, Finset.sum_empty, Finset.sum_empty, add_zero]
  have hown : iprop(bigSep (Finset.Ico 0 4) (fun p => pc m c p fullShare.left) ∗ bigSep (Finset.Ico 0 4) (lent m c false) ∗ bigSep (Finset.Ico 0 4) (lent m c true))
      = bigSep (Finset.Ico 0 4) fun p => pc m c p fullShare := by
    rw [← bigSep_sep', ← bigSep_sep']
    exact bigSep_congr fun j hj => lent_own m c (Finset.mem_Ico.mp hj).2
  unfold st
  rw [h0, counters c fun n => semVal (dCell c n) 0]
  iintro ⟨HO, Hf, Ht, -, Hown⟩
  ihave Hf := (show lane m c false 32 32 32 (4 + 32) ⊢ _ from lane_over m c false) $$ Hf
  ihave Ht := (show lane m c true 28 28 28 (4 + 28) ⊢ _ from lane_over m c true) $$ Ht
  icases Hf with ⟨F1, F2, F3, F4⟩
  icases Ht with ⟨T1, T2, T3, T4⟩
  isplitl [HO]; · iexact HO
  isplitl [Hown F1 F2 T1 T2]
  · iexists (full m c)
    ihave H := (Entails.of_eq hown) $$ [Hown F1 T1]
    · isplitl [Hown]; · iexact Hown
      isplitl [F1] <;> iassumption
    iapply (Entails.of_eq ((whole_pieces c fullShare (full m c)).trans (deal (fun p => pc m c p fullShare))).symm)
    isplitl [H]; · iexact H
    isplitl [F2]; · iexact F2
    iexact T2
  isplitl [F3 F4]
  · isplitl [F3] <;> iassumption
  isplitl [T3] <;> iassumption

/-! ## The read of the whole buffer -/

/-- The whole buffer read, once everything has landed. -/
theorem load_all {c : Dev nD} {a v a' v' : ℕ} {α : Type} {R : sProp 𝕄} {Q : α → sProp 𝕄} {h} {hl} {k : _ → Prog (TpuEff nD τ sig (Elt F) Λ₀ .tc) α}
    (hk : iprop(env m ∗ R ∗ st m c 4 a v 32 a' v' 28) ⊢ wpc c (k (full m c)) Q) :
    iprop(env m ∗ R ∗ st m c 4 a v 32 a' v' 28)
      ⊢ wpc c (.op (.load commM (Rect.unit (s := S2048x1024) ![0, 0] S2048x1024.size h).toLoadRect hl) k) Q := by
  have hz : (![0, 0] : Fin 2 → Nat) = fun _ => 0 := by funext i; fin_cases i <;> rfl
  have hread : (commM : Memref sig .tc .vmem S2048x1024 .bf16).view.readAt (Elt F) (Rect.unit ![0, 0] S2048x1024.size h).toLoadRect (full m c) = full m c :=
    Memref.readAt_unit_zero (Elt F) cc0_scratch0 hz _ _
  have hlane : ∀ (d : Bool) (a v l : ℕ), lane m c d a v (len d) l
      = iprop((bigSep (Finset.Ico a (len d)) (toStart c d) ∗ bigSep (Finset.Ico v a) (started c d) ∗ bigSep (Finset.Ico 0 v) (returned m c d)
          ∗ bigSep (Finset.Ico (len d) (len d)) (toLand c d) ∗ bigSep (Finset.Ico 0 (len d)) (fun j => semVal (dCell c (rIx d j)) 0) ∗ bigSep (Finset.Ico a l) (lent m c d))
          ∗ bigSep (Finset.Ico 0 (len d)) (fun j => pc m c (dstP d j) fullShare.left)) := by
    intro d a v l
    unfold lane landed
    rw [bigSep_sep']
    refine two_ways ?_ ?_
    · iintro ⟨H1, H2, H3, H4, ⟨H5, H6⟩, H7⟩
      isplitl [H1 H2 H3 H4 H6 H7]
      · isplitl [H1]; · iexact H1
        isplitl [H2]; · iexact H2
        isplitl [H3]; · iexact H3
        isplitl [H4]; · iexact H4
        isplitl [H6] <;> iassumption
      iexact H5
    · iintro ⟨⟨H1, H2, H3, H4, H6, H7⟩, H5⟩
      isplitl [H1]; · iexact H1
      isplitl [H2]; · iexact H2
      isplitl [H3]; · iexact H3
      isplitl [H4]; · iexact H4
      isplitl [H5 H6]
      · isplitl [H5] <;> iassumption
      iexact H7
  unfold st at *
  rw [show lane m c false a v 32 (4 + 32) = _ from hlane false a v 36, show lane m c true a' v' 28 (4 + 28) = _ from hlane true a' v' 32] at *
  iintro ⟨#He, HR, HO, ⟨Hf, F⟩, ⟨Ht, T⟩, Hrest, Hown⟩
  ihave H := (Entails.of_eq (half_whole m c).symm) $$ [Hown F T]
  · isplitl [Hown]; · iexact Hown
    isplitl [F]; · iexact F
    iexact T
  iapply (wp_load 𝒱₀ (c : Thread nD τ) none Set.univ (m := commM) (Finset.subset_univ _)) $$ H
  iintro H
  rw [hread]
  ihave H := (Entails.of_eq (half_whole m c)) $$ H
  icases H with ⟨Hown, F, T⟩
  iapply hk
  isplitr; · iexact He
  isplitl [HR]; · iexact HR
  isplitl [HO]; · iexact HO
  isplitl [Hf F]
  · isplitl [Hf]; · iexact Hf
    iexact F
  isplitl [Ht T]
  · isplitl [Ht]; · iexact Ht
    iexact T
  isplitl [Hrest] <;> iassumption

end Cert.Exchange

end
-- ==== Proof.Enter.lean ====
/-
The start of the body: both neighbours are told that the device has entered, and both are waited for.
-/
module

public import proofs.«01_k».proof.Proof.Pieces

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What a transfer needs besides the room at the peer. -/
def ready (c : Dev nD) (d : Bool) (j : ℕ) : sProp 𝕄 :=
  iprop(dutyTok ER (dCell c (sIx d j)) 0 false ∗ dutyTok ER (dCell (peer d c) (rIx d j)) 0 false ∗ atPos ER (dCell c (sIx d j)) 0 ∅ 0)

/-- What a device is given to start with: its seats at the neighbours' barriers and its own, and those of its lanes. -/
def start (c : Dev nD) : sProp 𝕄 :=
  iprop((dutyTok ER (barCell (prv c)) 0 false ∗ dutyTok ER (barCell (nxt c)) 0 true ∗ atPos ER (barCell c) 0 ∅ 0 ∗ cred (tallyAt (barCell c) () 2))
    ∗ (bigSep (Finset.Ico 0 (len false)) (ready c false) ∗ bigSep (Finset.Ico 0 (len false)) (toLand c false))
    ∗ bigSep (Finset.Ico 0 (len true)) (ready c true) ∗ bigSep (Finset.Ico 0 (len true)) (toLand c true))

/-- A device before its first operation. -/
def atStart (c : Dev nD) : sProp 𝕄 :=
  iprop((∃ W, owes (c : Thread nD τ) (O₀ c) W) ∗ start c ∗ ∃ f : Buf (Elt F) ((c : Thread nD τ).loc cc0_scratch0), (c : Thread nD τ).loc cc0_scratch0 ↦{fullShare} f)

omit [FloatOps F] in
theorem toStart_all (c : Dev nD) (d : Bool) :
    iprop(bigSep (Finset.Ico 0 (len d)) (ready (F := F) c d) ∗ barPay c d) ⊢ bigSep (Finset.Ico 0 (len d)) (toStart (F := F) c d) := by
  unfold barPay
  rw [Finset.range_eq_Ico, ← bigSep_sep']
  refine bigSep_le fun j _ => ?_
  unfold ready toStart
  iintro ⟨⟨H1, H2, H3⟩, H4⟩
  isplitl [H1]; · iexact H1
  isplitl [H2]; · iexact H2
  isplitl [H4] <;> iassumption

omit [FloatOps F] in
theorem lane_begin (c : Dev nD) (d : Bool) (P : ℕ → sProp 𝕄) : (bigSep (Finset.Ico 0 0) P : sProp 𝕄) = iprop(emp) := by
  rw [Finset.Ico_self, bigSep_empty]; rfl

/-- The state once both neighbours are known to have entered. -/
theorem st_begin (c : Dev nD) (W : Waits sig Unit) :
    iprop(owes (c : Thread nD τ) (owedC c 0 0) W
        ∗ (bigSep (Finset.Ico 0 (len false)) (ready c false) ∗ barPay c false ∗ bigSep (Finset.Ico 0 (len false)) (toLand c false))
        ∗ (bigSep (Finset.Ico 0 (len true)) (ready c true) ∗ barPay c true ∗ bigSep (Finset.Ico 0 (len true)) (toLand c true))
        ∗ bigSep (Finset.Ico 0 4) (anyPc c))
      ⊢ st m c 0 0 0 0 0 0 0 := by
  have hl : ∀ d : Bool, iprop(bigSep (Finset.Ico 0 (len d)) (ready (F := F) c d) ∗ barPay c d ∗ bigSep (Finset.Ico 0 (len d)) (toLand c d)) ⊢ lane m c d 0 0 0 (0 + 0) := by
    intro d
    unfold lane
    iintro ⟨H1, H2, H3⟩
    ihave H := (toStart_all c d) $$ [H1 H2]
    · isplitl [H1] <;> iassumption
    isplitl [H]; · iexact H
    rw [lane_begin c d, lane_begin c d, lane_begin c d, lane_begin c d]
    isplitr; · iempintro
    isplitr; · iempintro
    isplitl [H3]; · iexact H3
    isplitr <;> iempintro
  unfold st
  iintro ⟨HO, Hf, Ht, Hp⟩
  isplitl [HO]; · iexists W; iexact HO
  isplitl [Hf]; · iapply (hl false) $$ Hf
  isplitl [Ht]; · iapply (hl true) $$ Ht
  isplitl [Hp]; · iexact Hp
  rw [lane_begin c true]
  iempintro

theorem amount_bar (c : Dev nD) (d : Bool) : (rd (F := F) m).amount (barCell c) 0 d = 1 := rfl
theorem payload_bar (c : Dev nD) (d : Bool) : (rd (F := F) m).payload (barCell c) 0 d = barPay c d := rfl

/-- What the neighbour is told it may fill. -/
theorem give (c : Dev nD) (d : Bool) : bigSep (Finset.Ico 0 (len d)) (fun j => anyPc (F := F) c (dstP d j)) ⊢ barPay (F := F) (back d c) d := by
  unfold barPay
  rw [Finset.range_eq_Ico, peer_back]

/-- The neighbours entered: the two signals and the wait. -/
theorem enter {c n₁ n₂ : Dev nD} (h₁ : n₁ = prv c) (h₂ : n₂ = nxt c) {α : Type} {R : sProp 𝕄} {Q : α → sProp 𝕄} {k : PUnit → Prog (TpuEff nD τ sig (Elt F) Λ₀ .tc) α}
    (hk : iprop(env m ∗ (inputs m c ∗ R ∗ semVal (barCell c) 0) ∗ st m c 0 0 0 0 0 0 0) ⊢ wpc c (k ⟨⟩) Q) :
    iprop(env m ∗ (inputs m c ∗ R) ∗ atStart c)
      ⊢ wpc c ((semSignalWord n₁ barS 1#32 >>= fun _ => semSignalWord n₂ barS 1#32 >>= fun _ => semWaitWord barS 2#32 >>= k)) Q := by
  subst h₁ h₂
  simp only [semSignalWord, semWaitWord, Prog.lift, Prog.bind_op, Prog.bind_ret, Prog.pure_eq_ret]
  unfold atStart start env
  iintro ⟨⟨#HR, #Hlev⟩, ⟨Hi, HF⟩, ⟨%W, HO⟩, ⟨⟨Ht1, Ht2, Hat, Hc⟩, ⟨Rf, Lf⟩, Rt, Lt⟩, Hs⟩
  ihave Hs := (scratch_dealt c) $$ Hs
  icases Hs with ⟨Hown, Gf, Gt⟩
  ihave K0 := (records_bar m c) $$ HR
  ihave K1 := (records_bar m (prv c)) $$ HR
  ihave K2 := (records_bar m (nxt c)) $$ HR
  unfold known
  icases K0 with ⟨%κ₀, #HI0, #Hr0⟩
  icases K1 with ⟨%κ₁, #HI1, #Hr1⟩
  icases K2 with ⟨%κ₂, #HI2, #Hr2⟩
  unfold O₀
  iapply (Rounds.wp_signal 𝒱₀ ER (rd m) (c : Thread nD τ) none (dst := (prv c : Thread nD τ)) (κ := κ₁)
      (d := false) (by rw [duties_bar]; exact Finset.mem_univ _) ((amount_bar m (prv c) false).trans (by decide)) () (owedC c 0 0 + tallyAt (barCell (nxt c)) () 1) rfl)
    $$ [HO Ht1 Gf]
  · isplitr; · iexact HI1
    isplitl [HO]; · iexact HO
    isplitl [Ht1]; · iexact Ht1
    isplitl [Gf]
    · rw [payload_bar]; iapply (show bigSep (Finset.Ico 0 32) (fun j => anyPc (F := F) c (dstP false j)) ⊢ barPay (F := F) (prv c) false from give c false) $$ Gf
    iexact Hr1
  iintro HO
  iapply (Rounds.wp_signal 𝒱₀ ER (rd m) (c : Thread nD τ) none (dst := (nxt c : Thread nD τ)) (κ := κ₂)
      (d := true) (by rw [duties_bar]; exact Finset.mem_univ _) ((amount_bar m (nxt c) true).trans (by decide)) () (owedC c 0 0) rfl)
    $$ [HO Ht2 Gt]
  · isplitr; · iexact HI2
    isplitl [HO]; · iexact HO
    isplitl [Ht2]; · iexact Ht2
    isplitl [Gt]
    · rw [payload_bar]; iapply (show bigSep (Finset.Ico 0 28) (fun j => anyPc (F := F) c (dstP true j)) ⊢ barPay (F := F) (nxt c) true from give c true) $$ Gt
    iexact Hr2
  iintro HO
  iapply (Rounds.wp_wait_rest_token 𝒱₀ ER (rd m) (c : Thread nD τ) none (κ := κ₀)
      (wpE_semWait_eq 𝒱₀ (c : Thread nD τ) none Set.univ) (Set.mem_univ _) () (O := owedC c 0 0) (W := W) (R := 0) (m := 0) (T := ∅)
      (by rw [expect_bar]; decide)) $$ [Hc HO Hat]
  · isplitr; · iexact HI0
    isplitl [Hc]; · iexact Hc
    isplitl [HO]; · iexact HO
    isplitr
    · iapply (mayWait_of_lt c (.reg barS) 1 0 0 (le_of_eq (lvOf_reg barS)) (fun j _ _ => by dsimp only [lvR]; omega) (fun j _ _ => by dsimp only [lvR]; omega)); iexact Hlev
    iexact Hat
  iintro ⟨HO, Hat, -, Hpay⟩
  ihave Hp := (Entails.of_eq (rest_bar m c)) $$ Hpay
  icases Hp with ⟨Pf, Pt⟩
  imod (Rounds.cell_close ER (rd m) (Set.mem_univ κ₀) (fun h => h) (R := 0 + 1) (duties_later m (barCell c))) $$ [Hat] with Hz
  · isplitr; · iexact HI0
    iexact Hat
  iapply hk
  unfold env
  isplitr
  · isplitr; · iexact HR
    iexact Hlev
  isplitl [Hi HF Hz]
  · isplitl [Hi]; · iexact Hi
    isplitl [HF] <;> iassumption
  iapply (st_begin m c _)
  isplitl [HO]; · iexact HO
  isplitl [Rf Lf Pf]
  · isplitl [Rf]; · iexact Rf
    isplitl [Pf] <;> iassumption
  isplitl [Rt Lt Pt]
  · isplitl [Rt]; · iexact Rt
    isplitl [Pt] <;> iassumption
  iexact Hown

end Cert.Exchange

end
-- ==== Proof.Body.lean ====
/-
The body, part by part.
-/
module

public import proofs.«01_k».proof.Proof.Enter

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The output's staging buffer. -/
abbrev outPt (c : Dev nD) (f : Buf (Elt F) ((c : Thread nD τ).loc cc0_stg3_0)) : sProp 𝕄 := (c : Thread nD τ).loc cc0_stg3_0 ↦{fullShare} f

section Out
variable {c : Dev nD} {α : Type}

theorem load_out {S Z : sProp 𝕄} {Q : α → sProp 𝕄} {r : LoadRect S2048x1024} {hl} {k : _ → Prog (TpuEff nD τ sig (Elt F) Λ₀ .tc) α}
    (hk : ∀ w, iprop(env m ∗ (inputs m c ∗ (∃ f, outPt c f) ∗ Z) ∗ S) ⊢ wpc c (k w) Q) :
    iprop(env m ∗ (inputs m c ∗ (∃ f, outPt c f) ∗ Z) ∗ S) ⊢ wpc c (.op (.load (Memref.whole cc0_stg3_0) r hl) k) Q := by
  iintro ⟨#He, ⟨Hi, ⟨%f, HR⟩, HZ⟩, HS⟩
  iapply (wp_load 𝒱₀ (c : Thread nD τ) none Set.univ (m := Memref.whole cc0_stg3_0) (Finset.subset_univ _)) $$ HR
  iintro HR
  iapply (hk _)
  isplitr; · iexact He
  isplitl [Hi HR HZ]
  · isplitl [Hi]; · iexact Hi
    isplitl [HR]; · iexists f; iexact HR
    iexact HZ
  iexact HS

theorem store_out {S Z : sProp 𝕄} {Q : α → sProp 𝕄} {h} {w : S2048x1024.Idx → Elt F .bf16} {hx} {hm} {k : PUnit → Prog (TpuEff nD τ sig (Elt F) Λ₀ .tc) α}
    (hk : iprop(env m ∗ (inputs m c ∗ outPt c w ∗ Z) ∗ S) ⊢ wpc c (k ⟨⟩) Q) :
    iprop(env m ∗ (inputs m c ∗ (∃ f, outPt c f) ∗ Z) ∗ S)
      ⊢ wpc c (.op (.store (Memref.whole cc0_stg3_0) (Rect.unit (s := S2048x1024) ![0, 0] S2048x1024.size h) w Finset.univ hx hm) k) Q := by
  have hz : (![0, 0] : Fin 2 → Nat) = fun _ => 0 := by funext i; fin_cases i <;> rfl
  have hwrite : ∀ f, ((Memref.whole cc0_stg3_0 : Memref sig .tc .vmem S2048x1024 .bf16).access (Rect.unit ![0, 0] S2048x1024.size h)).write (Elt F) f w Finset.univ = w :=
    fun f => Memref.write_access_unit_zero_univ (Elt F) cc0_stg3_0 hz _ f w
  iintro ⟨#He, ⟨Hi, ⟨%f, HR⟩, HZ⟩, HS⟩
  iapply (wp_store 𝒱₀ (c : Thread nD τ) none Set.univ (m := Memref.whole cc0_stg3_0) (r := Rect.unit (s := S2048x1024) ![0, 0] S2048x1024.size h) (Mk := Finset.univ) (Finset.subset_univ _)) $$ HR
  iintro HR
  rw [hwrite]
  iapply hk
  isplitr; · iexact He
  isplitl [Hi HR HZ]
  · isplitl [Hi]; · iexact Hi
    isplitl [HR] <;> iassumption
  iexact HS

end Out

set_option maxRecDepth 65536 in
/-- The first part: the entry, and the expert numbers read. -/
theorem part1 (c : Dev nD) {R : sProp 𝕄} {Q} (hQ : ∀ v5 v7, iprop(env m ∗ (inputs m c ∗ R ∗ semVal (barCell c) 0) ∗ st m c 0 0 0 0 0 0 0)
      ⊢ Q ⟨c, word c, v5, v7, k0_pay1 (ids m c), k0_pay2 (ids m c), iota .tc S16x1024 32 [0] iota_S16x1024_d0_w32, iota .tc S16x1024 32 [1] iota_S16x1024_d1_w32, 64#32, k0_pay3, k0_pay4⟩) :
    iprop(env m ∗ (inputs m c ∗ R) ∗ atStart c) ⊢ wpc c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) commM (Memref.isWhole_whole _) cc0_scratch1 cc0_scratch2 cc0_scratch3 cc0_scratch4) Q := by
  rw [k0_part1_eq_skeleton]
  unfold k0_part1_skel
  simp only [Prog.lift, Prog.bind_op, Prog.bind_ret, Prog.pure_eq_ret, wpc, wp_deviceId]
  refine enter m (by ext; simp only [k0_dev1_eq]; rfl) (by ext; simp only [k0_dev2_eq]; rfl) ?_
  refine load_ids m ?_
  exact (hQ _ _).trans fupd_intro

/-- Between the parts, before the output is written. -/
abbrev mid (c : Dev nD) (e a v b a' v' b' : ℕ) : sProp 𝕄 :=
  iprop(env m ∗ (inputs m c ∗ (∃ f, outPt c f) ∗ semVal (barCell c) 0) ∗ st m c e a v b a' v' b')

/-- Between the parts, once the output is written. -/
abbrev late (c : Dev nD) (v v' : ℕ) : sProp 𝕄 :=
  iprop(env m ∗ (inputs m c ∗ outPt c (outAt m c) ∗ semVal (barCell c) 0) ∗ st m c 4 32 v 32 28 v' 28)

/-- The neighbours, as the kernel numbers them. -/
theorem dev_nxt {c : Dev nD} {n : ℕ} (h) (e : n = (c.val + 1) % 16) : (⟨n, h⟩ : Dev nD) = nxt c := Fin.ext e
theorem dev_prv {c : Dev nD} {n : ℕ} (h) (e : n = (c.val + 15) % 16) : (⟨n, h⟩ : Dev nD) = prv c := Fin.ext e

set_option maxRecDepth 65536 in
set_option maxHeartbeats 8000000 in
/-- The body, from a device's start to its end. -/
theorem body_runs (c : Dev nD) :
    iprop(env m ∗ (inputs m c ∗ (∃ f, outPt c f)) ∗ atStart c)
      ⊢ wpc c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) commM (Memref.isWhole_whole _) cc0_scratch1 cc0_scratch2 cc0_scratch3 cc0_scratch4) (fun _ => late m c 32 28) := by
  rw [cc0_body_eq_skeleton]
  unfold cc0_body_skel
  rw [wpc, wp_bind]
  refine part1 m c fun v5 v7 => ?_
  refine seq_pure (by rw [k0_part2_eq_skeleton]; unfold k0_part2_skel; exact rfl) ?_
  refine seq_pure (by rw [k0_part3_eq_skeleton]; unfold k0_part3_skel; exact rfl) ?_
  refine seq_pure (by rw [k0_part4_eq_skeleton]; unfold k0_part4_skel; exact rfl) ?_
  refine seq ⟨slot (word c) (ids m c), picked (word c) (ids m c) (xs m c), product (word c) (ids m c) (xs m c) (ws m c) 0⟩ (mid m c 0 0 0 0 0 0 0) ?_ ?p5
  case p5 =>
    rw [k0_part5_eq_skeleton]
    unfold k0_part5_skel
    simp only [Prog.lift, Prog.bind_op, Prog.bind_ret, Prog.pure_eq_ret]
    refine load_x m ?_
    refine load_w m ?_
    refine load_own m rfl (by omega) fun w => ?_
    exact done rfl
  refine seq_any (mid m c 2 1 0 0 1 0 0) (fun x6 => ?_) ?p6
  refine seq_any (mid m c 3 3 0 0 2 0 0) (fun x7 => ?_) ?p7
  refine seq_any (mid m c 4 4 0 0 3 0 0) (fun x8 => ?_) ?p8
  refine seq_rel (fun x => x.1 = k0_pay33 (slot (word c) (ids m c))) (mid m c 4 5 0 1 4 0 1) ?_ ?p9
  rintro ⟨_, x, y⟩ rfl
  refine seq_any (mid m c 4 6 0 2 5 0 2) (fun x10 => ?_) ?p10
  refine seq_any (mid m c 4 7 0 3 6 0 2) (fun x11 => ?_) ?p11
  refine seq_any (mid m c 4 8 0 4 7 0 3) (fun x12 => ?_) ?p12
  refine seq_any (mid m c 4 9 0 5 8 0 4) (fun x13 => ?_) ?p13
  refine seq_any (mid m c 4 10 0 6 9 0 5) (fun x14 => ?_) ?p14
  refine seq_any (mid m c 4 10 0 7 10 0 6) (fun x15 => ?_) ?p15
  refine seq_any (mid m c 4 11 0 8 11 0 7) (fun x16 => ?_) ?p16
  refine seq_any (mid m c 4 12 0 9 12 0 8) (fun x17 => ?_) ?p17
  refine seq_any (mid m c 4 13 0 10 13 0 9) (fun x18 => ?_) ?p18
  refine seq_any (mid m c 4 14 0 10 14 0 10) (fun x19 => ?_) ?p19
  refine seq_any (mid m c 4 15 0 11 15 0 11) (fun x20 => ?_) ?p20
  refine seq_any (mid m c 4 16 0 12 16 0 12) (fun x21 => ?_) ?p21
  refine seq_any (mid m c 4 17 0 13 17 0 13) (fun x22 => ?_) ?p22
  refine seq_any (mid m c 4 18 0 14 17 0 14) (fun x23 => ?_) ?p23
  refine seq_any (mid m c 4 19 0 15 18 0 15) (fun x24 => ?_) ?p24
  refine seq_any (mid m c 4 20 0 16 19 0 16) (fun x25 => ?_) ?p25
  refine seq_any (mid m c 4 21 0 17 20 0 17) (fun x26 => ?_) ?p26
  refine seq_any (mid m c 4 22 0 18 21 0 17) (fun x27 => ?_) ?p27
  refine seq_any (mid m c 4 23 0 19 22 0 18) (fun x28 => ?_) ?p28
  refine seq_any (mid m c 4 24 0 20 23 0 19) (fun x29 => ?_) ?p29
  refine seq_any (mid m c 4 25 0 21 24 0 20) (fun x30 => ?_) ?p30
  refine seq_any (mid m c 4 25 0 22 25 0 21) (fun x31 => ?_) ?p31
  refine seq_any (mid m c 4 26 0 23 26 0 22) (fun x32 => ?_) ?p32
  refine seq_any (mid m c 4 27 0 24 27 0 23) (fun x33 => ?_) ?p33
  refine seq_any (mid m c 4 28 0 25 28 0 24) (fun x34 => ?_) ?p34
  refine seq_any (mid m c 4 29 0 26 28 0 25) (fun x35 => ?_) ?p35
  refine seq_any (mid m c 4 31 0 27 28 0 26) (fun x36 => ?_) ?p36
  refine seq_any (mid m c 4 32 0 28 28 0 28) (fun x37 => ?_) ?p37
  refine seq (outAt m c) (mid m c 4 32 0 32 28 0 28) ?_ ?p38
  refine seq_any (late m c 4 0) (fun x39 => ?_) ?p39
  refine seq_any (late m c 9 0) (fun x40 => ?_) ?p40
  refine seq_any (late m c 14 0) (fun x41 => ?_) ?p41
  refine seq_any (late m c 19 0) (fun x42 => ?_) ?p42
  refine seq_any (late m c 24 0) (fun x43 => ?_) ?p43
  refine seq_any (late m c 29 0) (fun x44 => ?_) ?p44
  refine seq_any (late m c 32 2) (fun x45 => ?_) ?p45
  refine seq_any (late m c 32 7) (fun x46 => ?_) ?p46
  refine seq_any (late m c 32 12) (fun x47 => ?_) ?p47
  refine seq_any (late m c 32 17) (fun x48 => ?_) ?p48
  refine seq_any (late m c 32 22) (fun x49 => ?_) ?p49
  refine seq_any (late m c 32 27) (fun x50 => ?_) ?p50
  case p38 =>
    simp only [k0_part38_eq_skeleton, k0_part38_skel, Prog.lift, Prog.bind_op, Prog.bind_ret, Prog.pure_eq_ret]
    iterate 4 (refine recv_false m ?_ ?_ ?_ ?_ ?_ ?_ ?_ ?_; rfl; rfl; omega; omega; omega; omega; omega)
    refine load_all m ?_
    refine end_val ?_ ?_
    · rfl
    · exact BIBase.Entails.rfl
  case p39 =>
    simp only [k0_part39_eq_skeleton, k0_part39_skel, Prog.lift, Prog.bind_op, Prog.bind_ret, Prog.pure_eq_ret]
    refine load_out m fun w => ?_
    refine store_out m ?_
    iterate 4 (refine back_false m ?_ ?_ ?_ ?_ ?_; rfl; rfl; omega; omega)
    refine end_any ?_
    exact BIBase.Entails.rfl
  all_goals simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part40_skel, k0_part41_skel, k0_part42_skel, k0_part43_skel, k0_part44_skel, k0_part45_skel, k0_part46_skel, k0_part47_skel, k0_part48_skel, k0_part49_skel, k0_part50_skel, Prog.lift, Prog.bind_op, Prog.bind_ret, Prog.pure_eq_ret]
  all_goals
    repeat first
      | ((with_reducible refine end_any ?_); exact BIBase.Entails.rfl)
      | ((with_reducible refine end_val ?_ ?_); rfl; exact BIBase.Entails.rfl)
      | ((with_reducible refine end_rel ?_ ?_); rfl; exact BIBase.Entails.rfl)
      | ((with_reducible refine is_send ?_)
         first
           | (refine send_false m (dev_nxt _ ?_) ?_ ?_ ?_ ?_ ?_ ?_ ?_ ?_; simp only [k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq]; rfl; rfl; rfl; rfl; omega; omega; omega)
           | (refine send_true m (dev_prv _ ?_) ?_ ?_ ?_ ?_ ?_ ?_ ?_ ?_; simp only [k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq]; rfl; rfl; rfl; rfl; omega; omega; omega))
      | ((with_reducible refine is_wait ?_)
         first
           | (refine recv_false m ?_ ?_ ?_ ?_ ?_ ?_ ?_ ?_; rfl; rfl; omega; omega; omega; omega; omega)
           | (refine recv_true m ?_ ?_ ?_ ?_ ?_ ?_ ?_ ?_; rfl; rfl; omega; omega; omega; omega; omega)
           | (refine back_false m ?_ ?_ ?_ ?_ ?_; rfl; rfl; omega; omega)
           | (refine back_true m ?_ ?_ ?_ ?_ ?_; rfl; rfl; omega; omega))
      | ((with_reducible refine is_store ?_)
         refine store_own m ?_ ?_ ?_ ?_ ?_ ?_ ?_ ?_; rfl; omega; omega; omega; omega; omega; rfl)
      | ((with_reducible refine is_load_w ?_)
         refine load_w m ?_)
      | ((with_reducible refine is_load ?_)
         refine load_own m ?_ ?_ fun w => ?_; rfl; omega)

end Cert.Exchange

end
-- ==== Proof.Run.lean ====
/-
The kernel's only grid point: from the staged inputs and a device's starting state to the staged result and counters at zero.
-/
module

public import proofs.«01_k».proof.Proof.Body

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (ρ : Dev nD → PrngReg)

/-- Before the point. -/
def before (c : Dev nD) : sProp 𝕄 :=
  iprop(env m ∗ start c ∗ ∃ f : Buf (Elt F) ((c : Thread nD τ).loc cc0_scratch0), (c : Thread nD τ).loc cc0_scratch0 ↦{fullShare} f)
/-- After the point: every counter is zero again. -/
def afterwards (c : Dev nD) : sProp 𝕄 :=
  iprop((∃ f : Buf (Elt F) ((c : Thread nD τ).loc cc0_scratch0), (c : Thread nD τ).loc cc0_scratch0 ↦{fullShare} f)
    ∗ semVal (barCell c) 0 ∗ bigSep (Finset.Ico 4 124) fun n => semVal (dCell c n) 0)

/-- The memory before the run. -/
def s₀ : MemSt nD τ sig (Elt F) := ⟨m, fun _ => 0, ρ⟩

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xs m c
    | ⟨1, _⟩ => ids m c
    | ⟨2, _⟩ => ws m c
    | ⟨3, _⟩ => outAt m c
  Φ t := match t with
    | ⟨0, _⟩ => before m c
    | ⟨_ + 1, _⟩ => afterwards c
  q _ := fullShare
  owed t := match t with
    | ⟨0, _⟩ => O₀ c
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

abbrev staged (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

def pointPre (c : Dev nD) : sProp 𝕄 :=
  iprop(before m c ∗ (dats m ρ 0 c).owesAt () t0_0.castSucc
    ∗ (∃ d, staged c cc0_stg0_0 ((dats m ρ 0 c).before (0 : Fin 4) t0_0 d)) ∗ (∃ d, staged c cc0_stg1_0 ((dats m ρ 0 c).before (1 : Fin 4) t0_0 d))
    ∗ (∃ d, staged c cc0_stg2_0 ((dats m ρ 0 c).before (2 : Fin 4) t0_0 d)) ∗ (∃ d, staged c cc0_stg3_0 ((dats m ρ 0 c).before (3 : Fin 4) t0_0 d)))
def pointPost (c : Dev nD) : sProp 𝕄 :=
  iprop(afterwards c ∗ (dats m ρ 0 c).owesAt () t0_0.succ
    ∗ staged c cc0_stg0_0 (xs m c) ∗ staged c cc0_stg1_0 (ids m c) ∗ staged c cc0_stg2_0 (ws m c) ∗ staged c cc0_stg3_0 (outAt m c))

theorem pointPre_enough (c : Dev nD) : pointPre m ρ c ⊢ iprop(env m ∗ (inputs m c ∗ (∃ f, outPt c f)) ∗ atStart c) := by
  unfold pointPre before Pipeline.Dat.owesAt Pipeline.owesWithin inputs atStart
  iintro ⟨⟨#He, Hs, Hscr⟩, ⟨%W, -, HO⟩, ⟨%d0, %g0, %h0, H0⟩, ⟨%d1, %g1, %h1, H1⟩, ⟨%d2, %g2, %h2, H2⟩, ⟨%d3, %g3, %h3, H3⟩⟩
  have e0 : g0 = xs m c := by rw [h0]; unfold Pipeline.Dat.before; rw [if_pos (fetch0_0 t0_0)]; rfl
  have e1 : g1 = ids m c := by rw [h1]; unfold Pipeline.Dat.before; rw [if_pos (fetch0_1 t0_0)]; rfl
  have e2 : g2 = ws m c := by rw [h2]; unfold Pipeline.Dat.before; rw [if_pos (fetch0_2 t0_0)]; rfl
  subst e0 e1 e2
  isplitr; · iexact He
  isplitl [H0 H1 H2 H3]
  · isplitl [H0 H1 H2]
    · isplitl [H0]; · iexact H0
      isplitl [H1]; · iexact H1
      iexact H2
    iexists g3; iexact H3
  isplitl [HO]; · iexists W; iexact HO
  isplitl [Hs]; · iexact Hs
  iexact Hscr

theorem late_enough (c : Dev nD) : late m c 32 28 ⊢ pointPost m ρ c := by
  unfold late pointPost afterwards Pipeline.Dat.owesAt Pipeline.owesWithin inputs
  rw [show (dats m ρ 0 c).owed t0_0.succ = 0 from rfl]
  iintro ⟨-, ⟨⟨H0, H1, H2⟩, H3, HB⟩, Hst⟩
  ihave H := (st_over m c) $$ Hst
  icases H with ⟨⟨%W, HO⟩, Hscr, Hd⟩
  isplitl [Hscr HB Hd]
  · isplitl [Hscr]; · iexact Hscr
    isplitl [HB] <;> iassumption
  isplitl [HO]
  · iexists W
    isplitr; · ipureintro; exact fun _ _ => Or.inl trivial
    iexact HO
  isplitl [H0]
  · iexists (xs m c); isplitr; · ipureintro; rfl
    iexact H0
  isplitl [H1]
  · iexists (ids m c); isplitr; · ipureintro; rfl
    iexact H1
  isplitl [H2]
  · iexists (ws m c); isplitr; · ipureintro; rfl
    iexact H2
  iexists (outAt m c); isplitr; · ipureintro; rfl
  iexact H3

set_option maxRecDepth 65536 in
/-- The point runs. -/
theorem point_runs (c : Dev nD) : Pipeline.BodyObligation (dats (F := F) m ρ 0 c) (defs₀ (F := F)) 𝒱₀ () Set.univ := fun t => by
  rw [fin_N0 t]
  rw [show ∀ Φ : Fin cfg0.W → sProp 𝕄, bigSep Finset.univ Φ = _ from bigSep_W0, show ∀ Φ : Fin cfg0.W → sProp 𝕄, bigSep Finset.univ Φ = _ from bigSep_W0]
  simp only [owns_whole]
  show pointPre m ρ c ⊢ wpc c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) commM (Memref.isWhole_whole _) cc0_scratch1 cc0_scratch2 cc0_scratch3 cc0_scratch4) (fun _ => pointPost m ρ c)
  exact (pointPre_enough m ρ c).trans ((body_runs m c).trans (wp_mono _ _ _ fun _ => late_enough m ρ c))

end Cert.Exchange

end
-- ==== Proof.Fund.lean ====
/-
What the launch deals: the invariants of all cells, the tokens passed round the ring, and the credit each cell is owed.
-/
module

public import proofs.«01_k».proof.Proof.Run

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells of a device -/

/-- Something for each of a device's cells. -/
def each (Φ : GSem nD τ sig → sProp 𝕄) (c : Dev nD) : sProp 𝕄 := iprop(Φ (barCell c) ∗ bigSep (Finset.Ico 4 124) fun n => Φ (dCell c n))

/-- The cells numbered: the barrier is 0, the DMA cells follow. -/
def semOf (k : ℕ) : SemLoc sig := if k = 0 then .reg barS else .dma (dS (3 + k))
def cellOf' (ck : Dev nD × Fin 121) : GSem nD τ sig := ((ck.1 : Thread nD τ), semOf ck.2.val)

theorem semOf_inj {j k : ℕ} (hj : j < 121) (hk : k < 121) (h : semOf j = semOf k) : j = k := by
  unfold semOf at h
  split at h <;> split at h
  · omega
  · cases h
  · cases h
  · have := dS_inj (n := 3 + j) (k := 3 + k) (by omega) (by omega) (SemLoc.dma.inj h); omega
theorem dev_of_cell {c c' : Dev nD} {s s' : SemLoc sig} (h : ((c : Thread nD τ), s) = ((c' : Thread nD τ), s')) : c = c' :=
  congrArg (fun g : GSem nD τ sig => g.1.1) h
theorem cellOf'_inj : Function.Injective cellOf' := by
  rintro ⟨c, j⟩ ⟨c', k⟩ h
  have hc : c = c' := dev_of_cell h
  subst hc
  have hs : semOf j.val = semOf k.val := congrArg Prod.snd h
  rw [Fin.ext (semOf_inj j.isLt k.isLt hs)]
def allCells : Finset (GSem nD τ sig) := Finset.univ.map ⟨cellOf', cellOf'_inj⟩

omit [FloatOps F] in
theorem over_fin (n : ℕ) (Φ : ℕ → sProp 𝕄) : bigSep Finset.univ (fun k : Fin n => Φ k.val) = bigSep (Finset.Ico 0 n) Φ := by
  refine (show _ = _ from (bigSep_map (s := Finset.univ) Fin.valEmbedding (Φ := Φ)).symm).trans ?_
  congr 1
  ext i
  rw [Finset.mem_map, Finset.mem_Ico]
  exact ⟨fun ⟨k, _, e⟩ => ⟨Nat.zero_le _, e ▸ k.isLt⟩, fun h => ⟨⟨i, h.2⟩, Finset.mem_univ _, rfl⟩⟩

omit [FloatOps F] in
theorem each_over (Φ : GSem nD τ sig → sProp 𝕄) (c : Dev nD) : bigSep Finset.univ (fun k : Fin 121 => Φ (cellOf' (c, k))) = each Φ c := by
  refine (show _ = _ from over_fin 121 (fun k => Φ ((c : Thread nD τ), semOf k))).trans ?_
  rw [bigSep_Ico_bot (by omega), show Finset.Ico (0 + 1) 121 = Finset.Ico 1 (1 + 120) from rfl,
    bigSep_shift 1 120]
  unfold each
  rw [show Finset.Ico 4 124 = Finset.Ico 4 (4 + 120) from rfl, bigSep_shift 4 120]
  have h : ∀ j, semOf (1 + j) = .dma (dS (4 + j)) := fun j => by
    unfold semOf
    rw [if_neg (by omega), show 3 + (1 + j) = 4 + j by omega]
  simp only [h]
  rfl

omit [FloatOps F] in
theorem each_sep (Φ Ψ : GSem nD τ sig → sProp 𝕄) (c : Dev nD) : each (fun g => iprop(Φ g ∗ Ψ g)) c = iprop(each Φ c ∗ each Ψ c) := by
  unfold each
  rw [bigSep_sep']
  refine two_ways ?_ ?_ <;>
    · iintro ⟨⟨H1, H2⟩, H3, H4⟩
      isplitl [H1 H3]
      · isplitl [H1] <;> iassumption
      isplitl [H2] <;> iassumption
omit [FloatOps F] in
theorem each_le {Φ Ψ : GSem nD τ sig → sProp 𝕄} (h : ∀ g, Φ g ⊢ Ψ g) (c : Dev nD) : each Φ c ⊢ each Ψ c := by
  unfold each
  iintro ⟨H1, H2⟩
  isplitl [H1]; · iapply (h _) $$ H1
  iapply (bigSep_le fun n _ => h (dCell c n)) $$ H2
omit [FloatOps F] in
theorem each_update {Φ Ψ : GSem nD τ sig → sProp 𝕄} (h : ∀ g, Φ g ⊢ |={Set.univ}=> Ψ g) (c : Dev nD) : each Φ c ⊢ |={Set.univ}=> each Ψ c := by
  unfold each
  iintro ⟨H1, H2⟩
  imod (h _) $$ H1 with H1
  imod ((bigSep_le fun n _ => h (dCell c n)).trans (bigSep_fupd _ _)) $$ H2 with H2
  imodintro
  isplitl [H1] <;> iassumption

/-! ## The tokens -/

def tokOf (cj : Dev nD × Fin 122) : GSem nD τ sig × ℕ × Bool :=
  if cj.2.val = 121 then (barCell cj.1, 0, true) else (((cj.1 : Thread nD τ), semOf cj.2.val), 0, false)
theorem tokOf_inj : Function.Injective tokOf := by
  rintro ⟨c, j⟩ ⟨c', k⟩ h
  unfold tokOf at h
  have hj := j.isLt
  have hk := k.isLt
  dsimp only at h
  split at h <;> split at h
  · have hc : c = c' := dev_of_cell (congrArg Prod.fst h)
    subst hc; congr 1; apply Fin.ext; omega
  · cases (show true = false from congrArg (fun x : GSem nD τ sig × ℕ × Bool => x.2.2) h)
  · cases (show false = true from congrArg (fun x : GSem nD τ sig × ℕ × Bool => x.2.2) h)
  · have hc : c = c' := dev_of_cell (congrArg Prod.fst h)
    subst hc
    have hs : semOf j.val = semOf k.val := congrArg (fun x => x.1.2) h
    rw [Fin.ext (semOf_inj (by omega) (by omega) hs)]
def allToks : Finset (GSem nD τ sig × ℕ × Bool) := Finset.univ.map ⟨tokOf, tokOf_inj⟩

/-- The tokens of the duties at a device's own cells. -/
def toks (c : Dev nD) : sProp 𝕄 := iprop(dutyTok ER (barCell c) 0 true ∗ each (fun g => dutyTok ER g 0 false) c)

omit [FloatOps F] in
theorem toks_over (c : Dev nD) :
    bigSep Finset.univ (fun j : Fin 122 => (dutyTok ER (tokOf (c, j)).1 (tokOf (c, j)).2.1 (tokOf (c, j)).2.2 : sProp 𝕄)) = toks c := by
  let T : ℕ → GSem nD τ sig × ℕ × Bool := fun j => if j = 121 then (barCell c, 0, true) else (((c : Thread nD τ), semOf j), 0, false)
  have h := over_fin 122 (fun j => (dutyTok ER (T j).1 (T j).2.1 (T j).2.2 : sProp 𝕄))
  refine (show _ = _ from h).trans ?_
  rw [bigSep_Ico_top (a := 0) (b := 121) (by omega)]
  unfold toks
  rw [← each_over, show bigSep Finset.univ (fun k : Fin 121 => (dutyTok ER (cellOf' (c, k)) 0 false : sProp 𝕄)) = _ from over_fin 121 (fun k => (dutyTok ER ((c : Thread nD τ), semOf k) 0 false : sProp 𝕄))]
  refine congrArg₂ (fun P Q : sProp 𝕄 => iprop(P ∗ Q)) rfl (bigSep_congr fun j hj => ?_)
  have := (Finset.mem_Ico.mp hj).2
  simp only [T]
  rw [if_neg (by omega)]

def u₀ : UU := (initOf (Pipeline.cells cfgs cellOf_inj) (Pipeline.launchToks cfgs cellOf_inj), initOf allCells allToks)

/-- What a device's share of the launch's ghost state is. -/
def G (c : Dev nD) : sProp 𝕄 :=
  iprop(each (fun g => roundState ER (rd m) g 0) c ∗ each (fun g => atPos ER g 0 ∅ 0) c ∗ each (fun g => reached ER g 0) c ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => each Φ c := by
    unfold allCells; rw [bigSep_map, bigSep_univ_prod]
    exact bigSep_congr fun c _ => each_over Φ c
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_over c
  iintro HX
  imod (Rounds.fund ER (rd m) allCells allToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr] <;> iassumption

/-! ## The semaphores the kernel owns -/

def osem (k : Fin 120) : SemLoc sig := .dma (dS (4 + k.val))

theorem ownSemFacts : Pipeline.OwnSemFacts cfg0.spec osem where
  isScoped := by decide
  inj j k h := by
    have := dS_inj (n := 4 + j.val) (k := 4 + k.val) (by omega) (by omega) (SemLoc.dma.inj h)
    exact Fin.ext (by omega)
  disj k w s h := by
    have h1 : ∀ (w : Fin cfg0.W) (s : Fin (cfg0.spec w).nbuf), dNum ((cfg0.spec w).sem s) < 4 := by decide
    have h2 : dNum (dS (4 + k.val)) = dNum ((cfg0.spec w).sem s) := congrArg dNum (SemLoc.dma.inj h)
    rw [dNum_dS (by omega)] at h2
    have := h1 w s
    omega

omit [FloatOps F] in
theorem ownSems_eq (c : Dev nD) : (Pipeline.ownSems0 (Ix := Unit) (Name := ℕ) (U := UU) (Lvl := ℕ) (Val := Elt F) (τ := τ) osem c : sProp 𝕄)
    = bigSep (Finset.Ico 4 124) fun n => semVal (dCell c n) 0 := by
  rw [show Finset.Ico 4 124 = Finset.Ico 4 (4 + 120) from rfl, bigSep_shift 4 120]
  exact over_fin 120 fun k => semVal (dCell c (4 + k)) 0
omit [FloatOps F] in
theorem barSem_eq (c : Dev nD) : (unscopedSems0 c : sProp 𝕄) = semVal (barCell c) 0 := by
  unfold unscopedSems0; rw [bigSep_eq_bigSepL_of_eq [SemLoc.reg barS] (by decide) (by decide)]; rfl

/-- A device's cells put under their invariants. -/
theorem cells_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(each (known m) c ∗ each (fun g => atPos ER g 0 ∅ 0) c ∗ toks c) := by
  unfold G
  rw [ownSems_eq, barSem_eq]
  iintro ⟨Hd, Hb, Hst, Hat, Hr, Htok⟩
  ihave Hv := (show iprop(semVal (barCell c) 0 ∗ bigSep (Finset.Ico 4 124) fun n => semVal (dCell c n) 0) ⊢ (each (fun g => semVal g 0) c : sProp 𝕄) from Entails.of_eq rfl) $$ [Hd Hb]
  · isplitl [Hb] <;> iassumption
  ihave H := (Entails.of_eq (each_sep (fun g => semVal g 0) (fun g => roundState ER (rd m) g 0) c).symm) $$ [Hv Hst]
  · isplitl [Hv] <;> iassumption
  imod (each_update (Ψ := fun g => iprop(∃ κ : ℕ, cellInv ER (rd m) κ g)) (fun g => (Rounds.body_intro ER (rd m) g).trans inv_alloc) c) $$ H with H
  imodintro
  isplitl [H Hr]
  · iapply (each_le (Φ := fun g => iprop((∃ κ : ℕ, cellInv ER (rd m) κ g) ∗ reached ER g 0)) (fun g => show _ ⊢ known m g from by
      unfold known; iintro ⟨⟨%κ, H⟩, Hr⟩; iexists κ; isplitl [H] <;> iassumption) c)
    iapply (Entails.of_eq (each_sep (fun g => iprop(∃ κ : ℕ, cellInv ER (rd m) κ g)) (fun g => reached ER g 0) c).symm)
    isplitl [H] <;> iassumption
  isplitl [Hat] <;> iassumption

/-! ## The tokens go round -/

/-- The tokens of the duties a device pays. -/
def payToks (c : Dev nD) : sProp 𝕄 :=
  iprop((dutyTok ER (barCell (prv c)) 0 false ∗ dutyTok ER (barCell (nxt c)) 0 true)
    ∗ (bigSep (Finset.Ico 0 (len false)) (fun j => dutyTok ER (dCell c (sIx false j)) 0 false)
      ∗ bigSep (Finset.Ico 0 (len false)) (fun j => dutyTok ER (dCell (nxt c) (rIx false j)) 0 false))
    ∗ bigSep (Finset.Ico 0 (len true)) (fun j => dutyTok ER (dCell c (sIx true j)) 0 false)
    ∗ bigSep (Finset.Ico 0 (len true)) (fun j => dutyTok ER (dCell (prv c) (rIx true j)) 0 false))

omit [FloatOps F] in
theorem toks_around : (bigSep Finset.univ fun c : Dev nD => (toks c : sProp 𝕄)) ⊢ bigSep Finset.univ fun c : Dev nD => payToks c := by
  have h : ∀ c : Dev nD, (toks c : sProp 𝕄) = iprop(dutyTok ER (barCell c) 0 true ∗ dutyTok ER (barCell c) 0 false
      ∗ (bigSep (Finset.Ico 0 (len false)) (fun j => dutyTok ER (dCell c (sIx false j)) 0 false)
        ∗ bigSep (Finset.Ico 0 (len false)) (fun j => dutyTok ER (dCell c (rIx false j)) 0 false))
      ∗ bigSep (Finset.Ico 0 (len true)) (fun j => dutyTok ER (dCell c (sIx true j)) 0 false)
      ∗ bigSep (Finset.Ico 0 (len true)) (fun j => dutyTok ER (dCell c (rIx true j)) 0 false)) := fun c => by
    unfold toks each
    rw [counters c fun n => dutyTok ER (dCell c n) 0 false]
  rw [bigSep_congr (s := Finset.univ) fun c _ => h c]
  unfold payToks
  simp only [bigSep_sep']
  rw [bigSep_univ_equiv ring (fun c : Dev nD => (dutyTok ER (barCell c) 0 true : sProp 𝕄)),
    bigSep_univ_equiv ring.symm (fun c : Dev nD => (dutyTok ER (barCell c) 0 false : sProp 𝕄)),
    bigSep_univ_equiv ring (fun c : Dev nD => (bigSep (Finset.Ico 0 (len false)) (fun j => dutyTok ER (dCell c (rIx false j)) 0 false) : sProp 𝕄)),
    bigSep_univ_equiv ring.symm (fun c : Dev nD => (bigSep (Finset.Ico 0 (len true)) (fun j => dutyTok ER (dCell c (rIx true j)) 0 false) : sProp 𝕄))]
  iintro ⟨H1, H2, ⟨H3, H4⟩, H5, H6⟩
  isplitl [H1 H2]
  · isplitl [H2]; · iexact H2
    iexact H1
  isplitl [H3 H4]
  · isplitl [H3]; · iexact H3
    iexact H4
  isplitl [H5]; · iexact H5
  iexact H6

/-- What the launch's global step leaves each device. -/
def G' (c : Dev nD) : sProp 𝕄 := iprop(records m ∗ each (fun g => atPos ER g 0 ∅ 0) c ∗ payToks c)

theorem global_step :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) := by
  refine Entails.trans (show _ ⊢ _ from (bigSep_mono fun c _ => cells_alloc m c).trans (bigSep_fupd _ _)) (fupd_mono ?_)
  rw [bigSep_sep', bigSep_sep']
  unfold G'
  rw [bigSep_sep', bigSep_sep']
  iintro ⟨HI, Hat, Htok⟩
  ihave Htok := (toks_around (F := F)) $$ Htok
  ihave HI := (show (bigSep Finset.univ fun c : Dev nD => each (known m) c) ⊢ records m from Entails.of_eq (by unfold records each; rfl)) $$ HI
  icases HI with #HI
  isplitr
  · iapply (show records m ⊢ _ from BI.bigSep_of_persistent (Finset.univ : Finset (Dev nD)) (records m))
    iexact HI
  isplitl [Hat] <;> iassumption

/-! ## The credit -/

theorem lane_owed (c d : Dev nD) (e e' : Bool) {j : ℕ} (hj : j < len e') :
    owedLane d e 0 (dCell c (rIx e' j)) () = if e = e' ∧ peer e d = c then N else 0 := by
  unfold owedLane
  rw [Finset.sum_apply, Finsupp.finsetSum_apply]
  have hcell : ∀ i, i < len e → (dCell c (rIx e' j) = dCell (peer e d) (rIx e i) ↔ (e = e' ∧ peer e d = c) ∧ i = j) := by
    intro i hi
    constructor
    · intro h
      have h1 : c = peer e d := dev_of_cell h
      have h2 : rIx e' j = rIx e i := dS_inj (rIx_lt hj) (rIx_lt hi) (SemLoc.dma.inj (congrArg Prod.snd h))
      cases e <;> cases e' <;> simp only [rIx, len] at h2 hi hj
      · exact ⟨⟨rfl, h1.symm⟩, by omega⟩
      · omega
      · omega
      · exact ⟨⟨rfl, h1.symm⟩, by omega⟩
    · rintro ⟨⟨rfl, rfl⟩, rfl⟩; rfl
  by_cases h : e = e' ∧ peer e d = c
  · rw [if_pos h]
    rw [Finset.sum_eq_single j]
    · rw [tallyAt_apply, if_pos ⟨(hcell j (by rw [h.1]; exact hj)).mpr ⟨h, rfl⟩, rfl⟩]
    · intro i hi hne
      rw [tallyAt_apply, if_neg]
      rintro ⟨hg, -⟩
      exact hne ((hcell i (Finset.mem_Ico.mp hi).2).mp hg).2
    · intro hn; exact absurd (Finset.mem_Ico.mpr ⟨Nat.zero_le _, by rw [h.1]; exact hj⟩) hn
  · rw [if_neg h]
    refine Finset.sum_eq_zero fun i hi => ?_
    rw [tallyAt_apply, if_neg]
    rintro ⟨hg, -⟩
    exact h ((hcell i (Finset.mem_Ico.mp hi).2).mp hg).1

theorem lane_owed_bar (c d : Dev nD) (e : Bool) : owedLane d e 0 (barCell c) () = 0 := by
  unfold owedLane
  rw [Finset.sum_apply, Finsupp.finsetSum_apply]
  refine Finset.sum_eq_zero fun i hi => ?_
  rw [tallyAt_apply, if_neg]
  rintro ⟨hg, -⟩
  cases congrArg Prod.snd hg

theorem bar_ne_dma (c d : Dev nD) (n : ℕ) : dCell c n ≠ barCell d := fun h => by cases congrArg Prod.snd h

theorem owed_recv (d c : Dev nD) (e : Bool) {j : ℕ} (hj : j < len e) : O₀ d (dCell c (rIx e j)) () = if d = back e c then N else 0 := by
  unfold O₀ owedC
  rw [Pi.add_apply, Finsupp.add_apply, Pi.add_apply, Finsupp.add_apply, Pi.add_apply, Finsupp.add_apply, lane_owed c d false e hj, lane_owed c d true e hj,
    tallyAt_apply, tallyAt_apply, if_neg (c := _ = barCell (nxt d) ∧ _) (fun h => bar_ne_dma _ _ _ h.1), if_neg (c := _ = barCell (prv d) ∧ _) (fun h => bar_ne_dma _ _ _ h.1)]
  have h : peer e d = c ↔ d = back e c := ⟨fun h => by rw [← h, back_peer], fun h => by rw [h, peer_back]⟩
  by_cases hd : peer e d = c
  · rw [if_pos (h.mp hd)]
    cases e <;> simp [hd]
  · rw [if_neg (fun h' => hd (h.mpr h'))]
    cases e <;> simp [hd]

theorem owed_bar (d c : Dev nD) : O₀ d (barCell c) () = (if d = prv c then 1 else 0) + (if d = nxt c then 1 else 0) := by
  unfold O₀ owedC
  rw [Pi.add_apply, Finsupp.add_apply, Pi.add_apply, Finsupp.add_apply, Pi.add_apply, Finsupp.add_apply, lane_owed_bar, lane_owed_bar,
    tallyAt_apply, tallyAt_apply, Nat.zero_add]
  congr 1
  · refine if_congr ⟨fun h => ?_, fun h => ?_⟩ rfl rfl
    · have := dev_of_cell h.1; rw [this, prv_nxt]
    · rw [h, nxt_prv]; exact ⟨rfl, rfl⟩
  · refine if_congr ⟨fun h => ?_, fun h => ?_⟩ rfl rfl
    · have := dev_of_cell h.1; rw [this, nxt_prv]
    · rw [h, prv_nxt]; exact ⟨rfl, rfl⟩

theorem credit_recv (c : Dev nD) (e : Bool) {j : ℕ} (hj : j < len e) :
    tallyOn (dCell c (rIx e j)) (launchCredit (Pipeline.owing O₀) 0 (dCell c (rIx e j))) = (tallyAt (dCell c (rIx e j)) () N : CellTallies nD τ sig Unit) := by
  unfold tallyAt; refine congrArg _ (Finsupp.ext fun u => ?_); cases u
  rw [Pipeline.launchCredit_owing, Finsupp.single_eq_same, Finset.sum_congr rfl fun d _ => owed_recv d c e hj, Finset.sum_ite_eq' Finset.univ (back e c) fun _ => N,
    if_pos (Finset.mem_univ _)]
theorem credit_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

omit [FloatOps F] in
/-- The credit of a device's own cells. -/
theorem credits (c : Dev nD) :
    (Pipeline.launchCred O₀ c : sProp 𝕄) ⊢ iprop(cred (tallyAt (barCell c) () 2)
      ∗ bigSep (Finset.Ico 0 (len false)) (fun j => cred (tallyAt (dCell c (rIx false j)) () N))
      ∗ bigSep (Finset.Ico 0 (len true)) (fun j => cred (tallyAt (dCell c (rIx true j)) () N))) := by
  unfold Pipeline.launchCred
  let Φ : SemLoc sig → sProp 𝕄 := fun sm => cred (tallyOn ((c : Thread nD τ), sm) (launchCredit (Pipeline.owing O₀) 0 ((c : Thread nD τ), sm)))
  have hsub : (Finset.Ico 4 124).image (fun n => (SemLoc.dma (dS n) : SemLoc sig)) ⊆ Finset.univ.erase (SemLoc.reg barS) := by
    intro x hx
    obtain ⟨n, -, rfl⟩ := Finset.mem_image.mp hx
    exact Finset.mem_erase.mpr ⟨(fun h => by cases h), Finset.mem_univ _⟩
  have hinj : Set.InjOn (fun n => (SemLoc.dma (dS n) : SemLoc sig)) (Finset.Ico 4 124 : Finset ℕ) := by
    intro a ha b hb h
    have ha := Finset.mem_Ico.mp (Finset.mem_coe.mp ha)
    have hb := Finset.mem_Ico.mp (Finset.mem_coe.mp hb)
    exact dS_inj ha.2 hb.2 (SemLoc.dma.inj h)
  have hr : ∀ e : Bool, bigSep (Finset.Ico 0 (len e)) (fun j => Φ (.dma (dS (rIx e j)))) = bigSep (Finset.Ico 0 (len e)) (fun j => (cred (tallyAt (dCell c (rIx e j)) () N) : sProp 𝕄)) :=
    fun e => bigSep_congr fun j hj => congrArg cred (credit_recv c e (Finset.mem_Ico.mp hj).2)
  show bigSep Finset.univ Φ ⊢ _
  rw [bigSep_univ_at _ (SemLoc.reg barS), ← hr, ← hr]
  iintro ⟨HB, H⟩
  isplitl [HB]
  · iapply (Entails.of_eq (congrArg cred (credit_bar c))) $$ HB
  ihave H := (show bigSep (Finset.univ.erase (SemLoc.reg barS)) Φ ⊢ _ from BI.bigSep_subset hsub) $$ H
  ihave H := (Entails.of_eq ((bigSep_image_of_injOn hinj Φ).trans (counters c fun n => Φ (.dma (dS n))))) $$ H
  icases H with ⟨⟨-, H1⟩, -, H2⟩
  isplitl [H1] <;> iassumption

/-! ## What a device starts with -/

omit [FloatOps F] in
theorem start_of (c : Dev nD) : iprop(each (fun g => atPos ER g 0 ∅ 0) c ∗ payToks (F := F) c ∗ Pipeline.launchCred O₀ c) ⊢ start c := by
  unfold each payToks start ready toLand
  rw [counters c fun n => atPos ER (dCell c n) 0 ∅ 0]
  simp only [bigSep_sep']
  iintro ⟨⟨HaB, ⟨As, Ar⟩, Bs, Br⟩, ⟨⟨TP, TN⟩, ⟨Ts, Tr⟩, Us, Ur⟩, Hc⟩
  ihave Hc := (credits (F := F) c) $$ Hc
  icases Hc with ⟨C0, C1, C2⟩
  isplitl [HaB TP TN C0]
  · isplitl [TP]; · iexact TP
    isplitl [TN]; · iexact TN
    isplitl [HaB] <;> iassumption
  isplitl [As Ar Ts Tr C1]
  · isplitl [As Ts Tr]
    · isplitl [Ts]; · iexact Ts
      isplitl [Tr]; · iexact Tr
      iexact As
    isplitl [Ar] <;> iassumption
  isplitl [Bs Us Ur]
  · isplitl [Us]; · iexact Us
    isplitl [Ur]; · iexact Ur
    iexact Bs
  isplitl [Br] <;> iassumption

end Cert.Exchange

end
-- ==== Proof.Whole.lean ====
/-
The whole program: every device's result, its arguments unchanged, every counter back at zero.
-/
module

public import proofs.«01_k».proof.Proof.Fund
public import Idealize.ShloMosaic.Lib.Pipeline.Value
public import Idealize.ShloMosaic.Lib.Pipeline.CollectiveSegs

@[expose] public section

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (ρ : Dev nD → PrngReg)

theorem share_full (c : Dev nD) (w : Fin cfg0.W) : (dats m ρ 0 c).share w = fullShare := by unfold Pipeline.Dat.share; split <;> rfl

/-- The one argument the kernel does not read stays where it is. -/
def aside (c : Dev nD) : sProp 𝕄 := (c : Thread nD τ).loc main_arg1 ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop((env m ∗ start c) ∗ aside m c) := by
  rw [Pipeline.unscopedRestP_none, unscopedRest0_eq]
  unfold G'
  iintro ⟨Ha, Hlev, Hcr, -, ⟨#HR, Hat, Htok⟩⟩
  imodintro
  isplitr [Ha]
  · isplitl [Hlev]
    · unfold env
      isplitr; · iexact HR
      iexact Hlev
    iapply (start_of (F := F) c)
    isplitl [Hat]; · iexact Hat
    isplitl [Htok] <;> iassumption
  · unfold aside; iexact Ha

theorem before_intro (c : Dev nD) :
    iprop((env m ∗ start c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, scopedRest0_eq]
  unfold before
  iintro ⟨⟨He, Hs⟩, -, Hr⟩
  isplitl [He]; · iexact He
  isplitl [Hs] <;> iassumption

theorem afterwards_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = afterwards c from rfl, scopedRest0_eq, ownSems_eq, barSem_eq]
  unfold afterwards
  iintro ⟨Hr, Hb, Hd⟩
  isplitl [Hb]; · iexact Hb
  isplitl [Hd] <;> iassumption

theorem stage_level : ∀ (w : Fin cfg0.W) (s : Fin (cfg0.spec w).nbuf), lvOf (.dma ((cfg0.spec w).sem s)) = 0 := by decide

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_level w s) _ (by
      rcases t with ⟨_ | _, ht⟩
      · exact Or.inl rfl
      · exact Or.inr rfl)

/-- The arrays after the run. -/
def finalA (c : Dev nD) (w : Fin cfg0.W) : Buf (Elt F) ((cfg0.win w).arr.view.loc (c : Thread nD τ)) := (dats m ρ 0 c).arrAt w cfg0.N

theorem finalA_in (c : Dev nD) (w : Fin cfg0.W) (h : (cfg0.win w).isOut = false) : finalA m ρ c w = m ((cfg0.win w).arr.view.loc (c : Thread nD τ)) :=
  (dats (F := F) m ρ 0 c).arrAt_in w h _

/-- Each window's only block is its whole array. -/
theorem emb_x (i : S2048x512.Idx) : (win0_0.blk (0 : Fin 1)).view.emb i = i := by
  funext a; apply Fin.ext
  match a with
  | ⟨0, _⟩ => show 0 * 2048 + 1 * (i ⟨0, _⟩).val = (i ⟨0, _⟩).val; omega
  | ⟨1, _⟩ => show 0 * 512 + 1 * (i ⟨1, _⟩).val = (i ⟨1, _⟩).val; omega
theorem emb_ids (i : S2048x1.Idx) : (win0_1.blk (0 : Fin 1)).view.emb i = i := by
  funext a; apply Fin.ext
  match a with
  | ⟨0, _⟩ => show 0 * 2048 + 1 * (i ⟨0, _⟩).val = (i ⟨0, _⟩).val; omega
  | ⟨1, _⟩ => show 0 * 1 + 1 * (i ⟨1, _⟩).val = (i ⟨1, _⟩).val; omega
theorem emb_w (i : S4x512x1024.Idx) : (win0_2.blk (0 : Fin 1)).view.emb i = i := by
  funext a; apply Fin.ext
  match a with
  | ⟨0, _⟩ => show 0 * 4 + 1 * (i ⟨0, _⟩).val = (i ⟨0, _⟩).val; omega
  | ⟨1, _⟩ => show 0 * 512 + 1 * (i ⟨1, _⟩).val = (i ⟨1, _⟩).val; omega
  | ⟨2, _⟩ => show 0 * 1024 + 1 * (i ⟨2, _⟩).val = (i ⟨2, _⟩).val; omega
theorem emb_out (i : S2048x1024.Idx) : (win0_3.blk (0 : Fin 1)).view.emb i = i := by
  funext a; apply Fin.ext
  match a with
  | ⟨0, _⟩ => show 0 * 2048 + 1 * (i ⟨0, _⟩).val = (i ⟨0, _⟩).val; omega
  | ⟨1, _⟩ => show 0 * 1024 + 1 * (i ⟨1, _⟩).val = (i ⟨1, _⟩).val; omega

/-- The staged copies are the arguments. -/
theorem xs_eq (c : Dev nD) : xs m c = m ((c : Thread nD τ).loc main_arg0) :=
  funext fun i => congrArg (m ((c : Thread nD τ).loc main_arg0) : S2048x512.Idx → Elt F .bf16) (emb_x i)
theorem ids_eq (c : Dev nD) : ids m c = m ((c : Thread nD τ).loc main_arg2) :=
  funext fun i => congrArg (m ((c : Thread nD τ).loc main_arg2) : S2048x1.Idx → Elt F .i32) (emb_ids i)
theorem ws_eq (c : Dev nD) : ws m c = m ((c : Thread nD τ).loc main_arg3) :=
  funext fun i => congrArg (m ((c : Thread nD τ).loc main_arg3) : S4x512x1024.Idx → Elt F .bf16) (emb_w i)

theorem finalA_out (c : Dev nD) : finalA m ρ c (3 : Fin 4) = outAt m c := by
  refine (dats m ρ 0 c).arrAt_eq_of_cover 3 (outAt m c) (fun t _ => ?_) fun i => ⟨t0_0, flush0_3 _, Finset.mem_map.mpr ⟨i, Finset.mem_univ _, emb_out i⟩⟩
  rw [fin_N0 t]
  exact funext fun i => (congrArg (outAt m c : S2048x1024.Idx → Elt F .bf16) (emb_out i)).symm

/-- What holds of the final memory. -/
def Done (r : PUnit × MemSt nD τ sig (Elt F)) : Prop :=
  (∀ c : Dev nD, r.2.mem ((c : Thread nD τ).loc main_v1) = outAt m c
    ∧ r.2.mem ((c : Thread nD τ).loc main_arg0) = m ((c : Thread nD τ).loc main_arg0) ∧ r.2.mem ((c : Thread nD τ).loc main_arg1) = m ((c : Thread nD τ).loc main_arg1)
    ∧ r.2.mem ((c : Thread nD τ).loc main_arg2) = m ((c : Thread nD τ).loc main_arg2) ∧ r.2.mem ((c : Thread nD τ).loc main_arg3) = m ((c : Thread nD τ).loc main_arg3))
    ∧ r.2.sem = fun _ => 0

set_option maxRecDepth 65536 in
/-- The program ends from any memory with counters at zero, with the computed results, its arguments unchanged and its counters at zero. -/
theorem run_main : θ_run defs (onTc (τ := τ) (main (F := F))) (s₀ m ρ) (Done m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := point_runs m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := global_step m)
    (hA := fun _ _ => rfl) (hpf := fun _ k => k.elim0)
    (X := fun c => iprop(env m ∗ start c)) (Y := fun c => unscopedSems0 c) (Z := aside m)
    (hX := start_intro m ρ) (hin := before_intro m ρ) (hout := afterwards_exit m ρ)
    (QY := fun c s => s.mem ((c : Thread nD τ).loc main_arg1) = m ((c : Thread nD τ).loc main_arg1)
      ∧ ∀ sm : SemLoc sig, sm.isScoped .tc = false → s.sem ((c.tc : Thread nD τ), sm) = 0)
    (hY := fun c s' => by
      unfold aside
      iintro ⟨Hu, Ha, HSI⟩
      icombine HSI Ha gives %ha
      imod (Pipeline.unscopedSems0_read (X := unscopedSems0 c) (c := c) fupd_intro s') $$ [Hu HSI] with ⟨%hs, HSI⟩
      · isplitl [Hu] <;> iassumption
      imodintro
      isplitr; · ipureintro; exact ⟨Buf.eq_of_forall_mem_univ ha, hs⟩
      iexact HSI)
    (hQ := fun _ h hs => ⟨fun c =>
      ⟨((h c).1 (3 : Fin 4)).trans (finalA_out m ρ c), ((h c).1 (0 : Fin 4)).trans (finalA_in m ρ c (0 : Fin 4) rfl), (h c).2.2.1,
        ((h c).1 (1 : Fin 4)).trans (finalA_in m ρ c (1 : Fin 4) rfl), ((h c).1 (2 : Fin 4)).trans (finalA_in m ρ c (2 : Fin 4) rfl)⟩,
      sem_eq_zero hs fun c => (h c).2.2.2⟩)

end Cert.Exchange

end
-- ==== Proof.Frames.lean ====
/-
The kernel and the reference run: they end, the arguments as they were, with every counter at zero.
-/
module

public import proofs.«01_k».proof.Defs
public import proofs.«01_k».proof.Proof.Whole
public import proofs.«01_k».proof.Proof.Gen.Kernel
public import proofs.«01_k».proof.Proof.Gen.Kernel.Launch
public import proofs.«01_k».proof.Proof.Gen.ReferenceIdeal
public import proofs.«01_k».proof.Proof.Gen.ReferenceIdeal.Run

@[expose] public section

noncomputable section

namespace Cert.Exchange

open Idealize.ShloMosaic Idealize.ShloMosaic.TcCoe Idealize.SL.Sem

section
variable {F : FTy → Type} [FloatOps F]

set_option maxRecDepth 65536 in
/-- The kernel's text is the same in both programs. -/
theorem body_same : @Cert.Kernel.cc0_body F _ Cert.Kernel.Gen.facts = @Cert.KernelIdeal.cc0_body F _ Cert.KernelIdeal.Gen.facts := rfl

set_option maxRecDepth 65536 in
/-- So both tables run the same kernel. -/
theorem table_same : Cert.Kernel.defs₀ (F := F) = Cert.KernelIdeal.defs₀ (F := F) := by
  refine congrArg Defs.onTc (funext fun l => funext fun x => ?_)
  match l, x with
  | 0, (t, s) => exact congrFun (congrFun (congrFun (congrFun (congrFun (congrFun (congrFun (congrFun (congrFun (congrFun (congrFun (congrFun
      (congrFun (congrFun body_same _) _) _) _) _) _) _) _) _) _) _) _) _) _

/-- And the same pipeline round it. -/
theorem defs_same : Cert.Kernel.defs (F := F) = Cert.KernelIdeal.defs (F := F) := congrArg (Pipeline.defs _) table_same
end

/-- The kernel over bit patterns: the same text, so the same run. -/
theorem frame_kernel : Cert.quiescent_Kernel := fun m ρ _ =>
  Eq.mpr (congrArg (fun d => θ_run d (onTc (τ := Cert.Kernel.τ) (Cert.Kernel.main (F := Bits))) ⟨m, fun _ => 0, ρ⟩ _) defs_same)
    ((θ_run Cert.KernelIdeal.defs _ _).mono
      (fun r (h : Done (F := Bits) m r) => (show (∀ c : Dev Cert.KernelIdeal.nD, _) ∧ r.2.sem = fun _ => 0 from ⟨fun c => (h.1 c).2, h.2⟩))
      (run_main (F := Bits) m ρ))

/-- The kernel over the extended reals. -/
theorem frame_ideal : Cert.quiescent_KernelIdeal := fun m ρ _ =>
  (θ_run Cert.KernelIdeal.defs _ _).mono (fun _ h => ⟨fun c => (h.1 c).2, h.2⟩) (run_main (F := Ideal) m ρ)

/-- The reference, which has no counters at all. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Exchange

end
-- ==== Proof.Words.lean ====
/-
Word arithmetic on words that hold natural numbers: quotients and remainders, the quotient as the kernel
writes it (with a correction for signs that never applies), masks and whole numbers as extended reals.
-/
module

public import proofs.«01_k».proof.Proof.Values
public import Idealize.ShloMosaic.Lib.Pointwise

@[expose] public section

noncomputable section

namespace Cert.Exchange

open Cert.KernelIdeal Cert.KernelIdeal.Gen
open Idealize.ShloMosaic Idealize.ShloMosaic.TcCoe
open scoped BigOperators

/-- A word that holds a small number is not negative. -/
theorem msb_small {n : ℕ} (h : n < 2 ^ 31) : (BitVec.ofNat 32 n).msb = false := by
  rw [BitVec.msb_eq_false_iff_two_mul_lt, BitVec.toNat_ofNat]
  omega

/-- What a word that holds a small number holds. -/
theorem toNat_small {n : ℕ} (h : n < 2 ^ 31) : (BitVec.ofNat 32 n).toNat = n := by
  rw [BitVec.toNat_ofNat]; omega

theorem toInt_small {n : ℕ} (h : n < 2 ^ 31) : (BitVec.ofNat 32 n).toInt = (n : ℤ) := by
  rw [BitVec.toInt_eq_toNat_of_msb (msb_small h), toNat_small h]

/-- Two small numbers are equal when their words are. -/
theorem ofNat_inj {a b : ℕ} (ha : a < 2 ^ 31) (hb : b < 2 ^ 31) : BitVec.ofNat 32 a = BitVec.ofNat 32 b ↔ a = b := by
  constructor
  · intro h; have := congrArg BitVec.toNat h; rwa [toNat_small ha, toNat_small hb] at this
  · rintro rfl; rfl

/-- No division of small positive numbers meets a corner case. -/
theorem no_corner {n d : ℕ} (hn : n < 2 ^ 31) (hd : 0 < d) (hd' : d < 2 ^ 31) : ¬ IntOp.SDivCorner (BitVec.ofNat 32 n) (BitVec.ofNat 32 d) := by
  unfold IntOp.SDivCorner
  rintro (h | ⟨h, -⟩)
  · have := congrArg BitVec.toNat h; rw [toNat_small hd'] at this; simp at this; omega
  · have := congrArg BitVec.msb h; rw [msb_small hn] at this; revert this; decide

theorem divsi_small (u : ArithUnit) {n d : ℕ} (hn : n < 2 ^ 31) (hd : 0 < d) (hd' : d < 2 ^ 31) :
    IntOp.divsi u (BitVec.ofNat 32 n) (BitVec.ofNat 32 d) = BitVec.ofNat 32 (n / d) := by
  unfold IntOp.divsi
  rw [if_neg (no_corner hn hd hd'), BitVec.sdiv_eq, msb_small hn, msb_small hd']
  apply BitVec.eq_of_toNat_eq
  have : n / d ≤ n := Nat.div_le_self _ _
  rw [toNat_small (by omega)]
  simp only [BitVec.toNat_udiv, BitVec.udiv_eq, toNat_small hn, toNat_small hd']

theorem remsi_small (u : ArithUnit) {n d : ℕ} (hn : n < 2 ^ 31) (hd : 0 < d) (hd' : d < 2 ^ 31) :
    IntOp.remsi u (BitVec.ofNat 32 n) (BitVec.ofNat 32 d) = BitVec.ofNat 32 (n % d) := by
  unfold IntOp.remsi
  rw [if_neg (no_corner hn hd hd'), BitVec.srem_eq, msb_small hn, msb_small hd']
  apply BitVec.eq_of_toNat_eq
  have : n % d ≤ n := Nat.mod_le _ _
  rw [toNat_small (by omega)]
  simp only [BitVec.toNat_umod, toNat_small hn, toNat_small hd']

theorem sgt_zero {n : ℕ} (h : n < 2 ^ 31) : IntOp.cmpi .sgt (BitVec.ofNat 32 n) 0#32 = BitVec.ofBool (decide (0 < n)) := by
  simp only [IntOp.cmpi, BitVec.slt, toInt_small h]
  congr 1
  simp

theorem slt_zero {n : ℕ} (h : n < 2 ^ 31) : IntOp.cmpi .slt (BitVec.ofNat 32 n) 0#32 = 0#1 := by
  simp only [IntOp.cmpi, BitVec.slt, toInt_small h]
  have : ¬ ((n : ℤ) < (0#32 : BitVec 32).toInt) := by simp
  rw [decide_eq_false this]; rfl

/-- The quotient as the kernel writes it: less one when the signs differ and the division leaves a remainder.
    `sign` is the divisor's sign. -/
theorem quotient_small {n d : ℕ} (hn : n < 2 ^ 31) (hd : 0 < d) (hd' : d < 2 ^ 31) {sign : BitVec 32} (hs : sign = 1#32) :
    Scalar.select (IntOp.andi (IntOp.cmpi .ne
          (IntOp.subi (BitVec.setWidth 32 (IntOp.cmpi .sgt (BitVec.ofNat 32 n) 0#32)) (BitVec.setWidth 32 (IntOp.cmpi .slt (BitVec.ofNat 32 n) 0#32))) sign)
        (IntOp.cmpi .ne (IntOp.remsi .vector (BitVec.ofNat 32 n) (BitVec.ofNat 32 d)) 0#32))
      (IntOp.subi (IntOp.divsi .vector (BitVec.ofNat 32 n) (BitVec.ofNat 32 d)) 1#32)
      (IntOp.divsi .vector (BitVec.ofNat 32 n) (BitVec.ofNat 32 d)) = BitVec.ofNat 32 (n / d) := by
  subst hs
  rw [sgt_zero hn, slt_zero hn, remsi_small _ hn hd hd', divsi_small _ hn hd hd']
  rcases Nat.eq_zero_or_pos n with rfl | h
  · simp [Scalar.select, IntOp.andi, IntOp.cmpi]
  · simp [Scalar.select, IntOp.andi, IntOp.cmpi, IntOp.subi, h]

/-- A mask as a number: one where the condition holds, zero elsewhere. -/
theorem mask_real (φ : FTy) (c : Bool) : FloatOps.sitofp (F := Ideal) φ (BitVec.setWidth 32 (BitVec.ofBool c)) = ((if c then 1 else 0 : ℕ) : EReal) := by
  show (((BitVec.setWidth 32 (BitVec.ofBool c)).toInt : ℝ) : EReal) = _
  cases c <;> simp

/-- A word that holds a small number, as a number. -/
theorem word_real (φ : FTy) {n : ℕ} (h : n < 2 ^ 31) : FloatOps.sitofp (F := Ideal) φ (BitVec.ofNat 32 n) = ((n : ℕ) : EReal) := by
  show (((BitVec.ofNat 32 n).toInt : ℝ) : EReal) = _
  rw [toInt_small h]
  simp

/-- A small number rounded to a word is its word. -/
theorem real_word {n : ℕ} (h : n < 2 ^ 31) : Ideal.fptosi 32 ((n : ℕ) : EReal) = BitVec.ofNat 32 n := by
  unfold Ideal.fptosi
  rw [show ((n : ℕ) : EReal) = ((n : ℝ) : EReal) by simp, Ideal.toIntClamped_coe]
  rw [if_pos (by positivity), Int.floor_natCast]
  have : max (-((2 ^ (32 - 1) : ℕ) : ℤ)) (min (((2 ^ (32 - 1) : ℕ) : ℤ) - 1) (n : ℤ)) = (n : ℤ) := by
    norm_num
    omega
  rw [this]
  exact BitVec.ofInt_natCast 32 n

/-- Sums and products of whole numbers, as extended reals. -/
theorem sum_real {ι : Type} (s : Finset ι) (f : ι → ℕ) : ∑ i ∈ s, ((f i : ℕ) : EReal) = ((∑ i ∈ s, f i : ℕ) : EReal) := by
  push_cast; rfl

end Cert.Exchange

end
-- ==== Proof.Stacked.lean ====
/-
Sixteen equal pieces laid one after the other, and the tables the kernel makes that way.
-/
module

public import proofs.«01_k».proof.Proof.Words
public import proofs.«01_k».proof.Proof.Values
public import Idealize.ShloMosaic.Lib.Pipeline.Value

@[expose] public section

noncomputable section

namespace Cert.Exchange

open Cert.KernelIdeal Cert.KernelIdeal.Gen
open Idealize.ShloMosaic Idealize.ShloMosaic.TcCoe
open scoped BigOperators

set_option maxRecDepth 16384

/-- Sixteen equal pieces laid along an axis. -/
def laid {α : Type} (t s : Shape) (a : Fin t.rank) (f : Fin 16 → s.Idx → α) (h : Shape.Concatenates (List.ofFn fun _ : Fin 16 => s) t a) : t.Idx → α :=
  concatenate t a (List.ofFn fun n : Fin 16 => (⟨s, f n⟩ : (s : Shape) × (s.Idx → α))) h

/-- Read at an index: the piece is the quotient of the index by the piece's extent, the place in it the remainder. -/
theorem laid_at {α : Type} {t s : Shape} (a : Fin t.rank) (f : Fin 16 → s.Idx → α)
    (h : Shape.Concatenates (List.ofFn fun _ : Fin 16 => s) t a) (hr : s.rank = t.rank) (K : ℕ) (hK : s.size (a.cast hr.symm) = K)
    (j : t.Idx) (n : Fin 16) (hn : (j a).val / K = n.val) (i : s.Idx) (hia : (i (a.cast hr.symm)).val = (j a).val % K)
    (hi : ∀ b : Fin s.rank, b.cast hr ≠ a → (i b).val = (j (b.cast hr)).val) : laid t s a f h j = f n i :=
  concatenate_ofFn_apply (t := t) (s₁ := s) a f h hr K hK j n hn i hia hi

/-- Column `b` of the table of tokens is block `b`. -/
theorem table_at (ids : Vec Ideal S2048x1 .i32) (p : Fin 128) (b : Fin 16) : k0_pay2 (F := Ideal) ids (ix2 p b) = ids (ix2 ⟨b.val * 128 + p.val, by omega⟩ 0) := by
  have hs : ∀ n : Fin 16, S2048x1.Slices ![n.val * 128, 0] S128x1 := by decide
  refine (laid_at (t := S128x16) (s := S128x1) 1 (fun n => extractStridedSlice S128x1 ![n.val * 128, 0] (k0_pay1 (F := Ideal) ids) (hs n))
    (by decide) rfl 1 rfl (ix2 p b) b (Nat.div_one _) (ix2 p 0) (Nat.mod_one _).symm (fun c hc => ?_)).trans ?_
  · fin_vals c with h
    · obtain rfl : c = (0 : Fin 2) := Fin.ext h; rfl
    · exact absurd (Fin.ext h) hc
  · pointwise [k0_pay1]

/-- The pieces of 64 entries of a row, one under the other. -/
def stack (v : FVec Ideal S1x1024 .bf16) : FVec Ideal S16x64 .bf16 :=
  laid S16x64 S1x64 0 (fun n => extractStridedSlice S1x64 ![0, n.val * 64] v ((by decide : ∀ n : Fin 16, S1x1024.Slices ![0, n.val * 64] S1x64) n)) (by decide)

theorem stack_at (v : FVec Ideal S1x1024 .bf16) (b : Fin 16) (e : Fin 64) : stack v (ix2 b e) = v (ix2 0 ⟨b.val * 64 + e.val, by omega⟩) := by
  refine (laid_at (t := S16x64) (s := S1x64) 0 _ _ rfl 1 rfl (ix2 b e) b (Nat.div_one _) (ix2 0 e) (Nat.mod_one _).symm (fun c hc => ?_)).trans ?_
  · fin_vals c with h
    · exact absurd (Fin.ext h) hc
    · obtain rfl : c = (1 : Fin 2) := Fin.ext h; rfl
  · pointwise

/-- The rows of a table, one after the other. -/
def flat (v : FVec Ideal S16x64 .f32) : FVec Ideal S1x1024 .f32 :=
  laid S1x1024 S1x64 1 (fun n => extractStridedSlice S1x64 ![n.val, 0] v ((by decide : ∀ n : Fin 16, S16x64.Slices ![n.val, 0] S1x64) n)) (by decide)

theorem flat_at (v : FVec Ideal S16x64 .f32) (f : Fin 1024) : flat v (ix2 0 f) = v (ix2 ⟨f.val / 64, by omega⟩ ⟨f.val % 64, by omega⟩) := by
  refine (laid_at (t := S1x1024) (s := S1x64) 1 _ _ rfl 64 rfl (ix2 0 f) ⟨f.val / 64, by omega⟩ rfl (ix2 0 ⟨f.val % 64, by omega⟩) rfl (fun c hc => ?_)).trans ?_
  · fin_vals c with h
    · obtain rfl : c = (0 : Fin 2) := Fin.ext h; rfl
    · exact absurd (Fin.ext h) hc
  · pointwise

/-- The columns of a table, one under the other. -/
def column (v : FVec Ideal S128x16 .f32) : FVec Ideal S2048x1 .f32 :=
  laid S2048x1 S128x1 0 (fun n => extractStridedSlice S128x1 ![0, n.val] v ((by decide : ∀ n : Fin 16, S128x16.Slices ![0, n.val] S128x1) n)) (by decide)

theorem column_at (v : FVec Ideal S128x16 .f32) (t : Fin 2048) : column v (ix2 t 0) = v (ix2 ⟨t.val % 128, by omega⟩ ⟨t.val / 128, by omega⟩) := by
  refine (laid_at (t := S2048x1) (s := S128x1) 0 _ _ rfl 128 rfl (ix2 t 0) ⟨t.val / 128, by omega⟩ rfl (ix2 ⟨t.val % 128, by omega⟩ 0) rfl (fun c hc => ?_)).trans ?_
  · fin_vals c with h
    · exact absurd (Fin.ext h) hc
    · obtain rfl : c = (1 : Fin 2) := Fin.ext h; rfl
  · pointwise

/-- The one-hot table of the tokens: column `f` is expert `f % 64` in block `f / 64`. -/
def hot (ids : Vec Ideal S2048x1 .i32) : FVec Ideal S128x1024 .bf16 :=
  k0_pay5 (F := Ideal) (k0_pay2 ids) (iota .tc S16x1024 32 [0] iota_S16x1024_d0_w32) (iota .tc S16x1024 32 [1] iota_S16x1024_d1_w32) 64#32 k0_pay3 k0_pay4

/-- How often each expert occurs in each block, in one row. -/
def often (v : FVec Ideal S128x1024 .bf16) : FVec Ideal S1x1024 .bf16 :=
  truncf .bf16 (shapeCast S1x1024 (multiReduction .add [0] S1024 (extf .f32 v bitsLt_bf16_f32) 0x00000000#32 reduces_S128x1024_S1024 (.inl rfl) rfl) shapeCasts_S1024_S1x1024) bitsLt_bf16_f32

/-- The sums of the rows above each row. -/
def above (v : FVec Ideal S16x64 .bf16) : FVec Ideal S16x64 .f32 :=
  matmul dot_S16x16_S16x64_S16x64_1_0_0_1_n_n none
    (truncf .bf16 (sitofp .f32 (extui 32 (cmpi .slt (iota .tc S16x16 32 [1] iota_S16x16_d1_w32) (iota .tc S16x16 32 [0] iota_S16x16_d0_w32)) natLt_1_32)) bitsLt_bf16_f32)
    v (constant S16x64 .f32 0x00000000#32)

/-- The count of each entry's earlier fellows in its block, with the row of starts added, where the table is one. -/
def tally (v : FVec Ideal S128x1024 .bf16) (w : FVec Ideal S1x1024 .f32) : FVec Ideal S128x1024 .bf16 :=
  truncf .bf16 (mulf (addf (matmul dot_S128x128_S128x1024_S128x1024_1_0_0_1_n_n none
    (truncf .bf16 (sitofp .f32 (extui 32 (cmpi .slt (iota .tc S128x128 32 [1] iota_S128x128_d1_w32) (iota .tc S128x128 32 [0] iota_S128x128_d0_w32)) natLt_1_32)) bitsLt_bf16_f32)
    v (constant S128x1024 .f32 0x00000000#32)) (broadcastTo S128x1024 w broadcasts_S1x1024_S128x1024)) (extf .f32 v bitsLt_bf16_f32)) bitsLt_bf16_f32

theorem blockSums_eq (ids : Vec Ideal S2048x1 .i32) : blockSums (F := Ideal) ids = tally (hot ids) (flat (above (stack (often (hot ids))))) := rfl

end Cert.Exchange

end
-- ==== Proof.Ranks.lean ====
/-
The ranks the kernel computes are the numbers of earlier tokens of the same expert.
-/
module

public import proofs.«01_k».proof.Proof.Stacked
public import Idealize.ShloMosaic.Lib.Pointwise

@[expose] public section

noncomputable section

namespace Cert.Exchange

open Cert.KernelIdeal Cert.KernelIdeal.Gen
open Idealize.ShloMosaic Idealize.ShloMosaic.TcCoe
open scoped BigOperators

set_option maxRecDepth 16384

theorem slt_small {a b : ℕ} (ha : a < 2 ^ 31) (hb : b < 2 ^ 31) : IntOp.cmpi .slt (BitVec.ofNat 32 a) (BitVec.ofNat 32 b) = BitVec.ofBool (decide (a < b)) := by
  simp only [IntOp.cmpi, BitVec.slt, toInt_small ha, toInt_small hb, Nat.cast_lt]

theorem eq_small {a b : ℕ} (ha : a < 2 ^ 31) (hb : b < 2 ^ 31) : IntOp.cmpi .eq (BitVec.ofNat 32 a) (BitVec.ofNat 32 b) = BitVec.ofBool (decide (a = b)) := by
  show BitVec.ofBool (_ == _) = _
  congr 1
  rw [beq_eq_decide]
  exact decide_eq_decide.mpr (ofNat_inj ha hb)

/-- Two words are equal when the numbers they hold are. -/
theorem real_inj (φ ψ : FTy) (a b : BitVec 32) : FloatOps.sitofp (F := Ideal) φ a = FloatOps.sitofp (F := Ideal) ψ b ↔ a = b := by
  show ((a.toInt : ℝ) : EReal) = ((b.toInt : ℝ) : EReal) ↔ _
  rw [EReal.coe_eq_coe_iff, Int.cast_inj]
  exact BitVec.toInt_inj

theorem often_at (v : FVec Ideal S128x1024 .bf16) (n : Fin 128 → Fin 1024 → ℕ) (h : ∀ p f, v (ix2 p f) = (n p f : EReal)) (f : Fin 1024) :
    often v (ix2 0 f) = ((∑ p, n p f : ℕ) : EReal) := by
  pointwise [often]
  simp only [h, sum_real]

theorem above_at (v : FVec Ideal S16x64 .bf16) (n : Fin 16 → Fin 64 → ℕ) (h : ∀ b e, v (ix2 b e) = (n b e : EReal)) (b : Fin 16) (e : Fin 64) :
    above v (ix2 b e) = ((∑ c, (if c.val < b.val then 1 else 0) * n c e : ℕ) : EReal) := by
  pointwise [above]
  have : ∀ c : Fin 16, IntOp.cmpi .slt (BitVec.ofNat 32 c.val) (BitVec.ofNat 32 b.val) = BitVec.ofBool (decide (c.val < b.val)) :=
    fun c => slt_small (by omega) (by omega)
  simp only [h, this, mask_real, decide_eq_true_eq, ← EReal.natCast_mul, sum_real]

theorem tally_at (v : FVec Ideal S128x1024 .bf16) (n : Fin 128 → Fin 1024 → ℕ) (h : ∀ p f, v (ix2 p f) = (n p f : EReal))
    (w : FVec Ideal S1x1024 .f32) (m : Fin 1024 → ℕ) (hw : ∀ f, w (ix2 0 f) = (m f : EReal)) (p : Fin 128) (f : Fin 1024) :
    tally v w (ix2 p f) = ((((∑ q : Fin 128, (if q.val < p.val then 1 else 0) * n q f) + m f) * n p f : ℕ) : EReal) := by
  pointwise [tally]
  have : ∀ q : Fin 128, IntOp.cmpi .slt (BitVec.ofNat 32 q.val) (BitVec.ofNat 32 p.val) = BitVec.ofBool (decide (q.val < p.val)) :=
    fun q => slt_small (by omega) (by omega)
  simp only [h, hw, this, mask_real, decide_eq_true_eq, sum_real, ← EReal.natCast_mul, ← Nat.cast_add]

/-- The mask that says which column lies in which block. -/
theorem block_mask (f : Fin 1024) (b : Fin 16) : IntOp.cmpi .eq (Scalar.select (IntOp.andi (IntOp.cmpi .ne
          (IntOp.subi (BitVec.setWidth 32 (IntOp.cmpi .sgt (BitVec.ofNat 32 f.val) 0#32)) (BitVec.setWidth 32 (IntOp.cmpi .slt (BitVec.ofNat 32 f.val) 0#32)))
          (Scalar.subi (Scalar.extui (Scalar.cmpi .sgt 64#32 0#32)) (Scalar.extui (Scalar.cmpi .slt 64#32 0#32))))
        (IntOp.cmpi .ne (IntOp.remsi .vector (BitVec.ofNat 32 f.val) 64#32) 0#32))
      (IntOp.subi (IntOp.divsi .vector (BitVec.ofNat 32 f.val) 64#32) 1#32)
      (IntOp.divsi .vector (BitVec.ofNat 32 f.val) 64#32)) (BitVec.ofNat 32 b.val) = BitVec.ofBool (decide (f.val / 64 = b.val)) := by
  have hq := quotient_small (n := f.val) (d := 64) (by omega) (by norm_num) (by norm_num)
    (sign := Scalar.subi (Scalar.extui (Scalar.cmpi .sgt 64#32 0#32)) (Scalar.extui (Scalar.cmpi .slt 64#32 0#32))) (by decide)
  exact (congrArg (fun x => IntOp.cmpi .eq x (BitVec.ofNat 32 b.val)) hq).trans (eq_small (by omega) (by omega))

/-- One where token `p` of the column's block goes to the column's expert. -/
def isHot (ids : Vec Ideal S2048x1 .i32) (p : Fin 128) (f : Fin 1024) : ℕ :=
  if ids (ix2 ⟨f.val / 64 * 128 + p.val, by omega⟩ 0) = BitVec.ofNat 32 (f.val % 64) then 1 else 0

theorem hot_at (ids : Vec Ideal S2048x1 .i32) (p : Fin 128) (f : Fin 1024) : hot ids (ix2 p f) = (isHot ids p f : EReal) := by
  pointwise [hot, k0_pay5, k0_pay3, k0_pay4]
  have hm := block_mask f
  have hr : IntOp.remsi .vector (BitVec.ofNat 32 f.val) 64#32 = BitVec.ofNat 32 (f.val % 64) := remsi_small _ (by omega) (by norm_num) (by norm_num)
  simp only [hm, mask_real]
  simp only [hr, decide_eq_true_eq]
  rw [Finset.sum_eq_single (⟨f.val / 64, by omega⟩ : Fin 16) (fun b _ hb => by
    rw [if_neg (fun h => hb (Fin.ext h.symm))]; simp) (fun h => absurd (Finset.mem_univ _) h), if_pos rfl, Nat.cast_one, mul_one, table_at]
  simp only [real_inj]
  rfl

/-- The sums of the counts over the columns of each block. -/
def places (v : FVec Ideal S128x1024 .bf16) : FVec Ideal S128x16 .f32 :=
  matmul dot_S128x1024_S1024x16_S128x16_1_0_0_1_n_n none v
    (truncf .bf16 (sitofp .f32 (extui 32 (cmpi .eq (select (andi (cmpi .ne k0_pay22 (broadcast S1024x16 (Scalar.subi (Scalar.extui (Scalar.cmpi .sgt 64#32 0#32)) (Scalar.extui (Scalar.cmpi .slt 64#32 0#32)))))
      (cmpi .ne (remsi (iota .tc S1024x16 32 [0] iota_S1024x16_d0_w32) (broadcast S1024x16 64#32)) (broadcast S1024x16 0#32))) (subi k0_pay21 (broadcast S1024x16 1#32)) k0_pay21)
      (iota .tc S1024x16 32 [1] iota_S1024x16_d1_w32)) natLt_1_32)) bitsLt_bf16_f32) (constant S128x16 .f32 0x00000000#32)

theorem rank_eq (ids : Vec Ideal S2048x1 .i32) : rank (F := Ideal) ids = fptosi 32 (column (places (blockSums ids))) := rfl

theorem places_at (v : FVec Ideal S128x1024 .bf16) (n : Fin 128 → Fin 1024 → ℕ) (h : ∀ p f, v (ix2 p f) = (n p f : EReal)) (p : Fin 128) (b : Fin 16) :
    places v (ix2 p b) = ((∑ f : Fin 1024, n p f * if f.val / 64 = b.val then 1 else 0 : ℕ) : EReal) := by
  pointwise [places, k0_pay21, k0_pay22]
  have hm := fun f => block_mask f b
  simp only [h, hm, mask_real, decide_eq_true_eq, ← EReal.natCast_mul, sum_real]

/-- The number of earlier tokens of a token's expert. -/
def earlier (ids : Vec Ideal S2048x1 .i32) (t : Fin 2048) : ℕ :=
  ∑ u : Fin 2048, if u.val < t.val ∧ ids (ix2 u 0) = ids (ix2 t 0) then 1 else 0

theorem earlier_le (ids : Vec Ideal S2048x1 .i32) (t : Fin 2048) : earlier ids t ≤ 2048 := by
  refine (Finset.sum_le_sum (fun u _ => (by split <;> omega : _ ≤ 1))).trans ?_
  simp

/-- What the kernel adds up for a token. -/
theorem counted (ids : Vec Ideal S2048x1 .i32) (p : Fin 128) (b : Fin 16) : places (blockSums ids) (ix2 p b) =
    ((∑ f : Fin 1024, ((∑ q : Fin 128, (if q.val < p.val then 1 else 0) * isHot ids q f)
      + ∑ c : Fin 16, (if c.val < f.val / 64 then 1 else 0) * ∑ q : Fin 128, isHot ids q ⟨c.val * 64 + f.val % 64, by omega⟩) * isHot ids p f
      * if f.val / 64 = b.val then 1 else 0 : ℕ) : EReal) := by
  rw [blockSums_eq]
  refine places_at _ _ (tally_at _ _ (hot_at ids) _ _ fun f => ?_) p b
  rw [flat_at]
  exact above_at _ (fun c e => ∑ q : Fin 128, isHot ids q ⟨c.val * 64 + e.val, by omega⟩)
    (fun c e => by rw [stack_at]; exact often_at _ _ (hot_at ids) _) ⟨f.val / 64, by omega⟩ ⟨f.val % 64, by omega⟩

/-- A sum over the tokens, block by block. -/
theorem by_blocks (g : Fin 2048 → ℕ) : ∑ u, g u = ∑ c : Fin 16, ∑ q : Fin 128, g ⟨c.val * 128 + q.val, by omega⟩ := by
  rw [← Fintype.sum_prod_type' (f := fun (c : Fin 16) (q : Fin 128) => g ⟨c.val * 128 + q.val, by omega⟩)]
  refine (Fintype.sum_equiv (finProdFinEquiv (m := 16) (n := 128)) _ _ fun x => congrArg g (Fin.ext ?_)).symm
  show _ = x.2.val + 128 * x.1.val
  simp only
  omega

/-- The earlier places: those of the same block, and those of the blocks before. -/
theorem two_parts (g : Fin 16 → Fin 128 → ℕ) (b : Fin 16) (p : Fin 128) :
    (∑ q : Fin 128, (if q.val < p.val then 1 else 0) * g b q) + ∑ c : Fin 16, (if c.val < b.val then 1 else 0) * ∑ q : Fin 128, g c q
      = ∑ c : Fin 16, ∑ q : Fin 128, (if c.val * 128 + q.val < b.val * 128 + p.val then 1 else 0) * g c q := by
  have one : ∀ c : Fin 16, ∑ q : Fin 128, (if c.val * 128 + q.val < b.val * 128 + p.val then 1 else 0) * g c q
      = (if b = c then ∑ q : Fin 128, (if q.val < p.val then 1 else 0) * g b q else 0) + (if c.val < b.val then 1 else 0) * ∑ q : Fin 128, g c q := by
    intro c
    by_cases hb : b = c
    · subst hb
      rw [if_pos rfl, if_neg (lt_irrefl _), zero_mul, add_zero]
      refine Finset.sum_congr rfl fun q _ => ?_
      simp only [Nat.add_lt_add_iff_left]
    · have hb' : b.val ≠ c.val := fun h => hb (Fin.ext h)
      rw [if_neg hb, zero_add, Finset.mul_sum]
      refine Finset.sum_congr rfl fun q _ => ?_
      have : c.val * 128 + q.val < b.val * 128 + p.val ↔ c.val < b.val := by omega
      simp only [this]
  rw [Finset.sum_congr rfl fun c _ => one c, Finset.sum_add_distrib, Finset.sum_ite_eq Finset.univ b, if_pos (Finset.mem_univ b)]

/-- The count for a token whose expert is numbered below 64. -/
theorem count_eq (ids : Vec Ideal S2048x1 .i32) (p : Fin 128) (b : Fin 16) (e : ℕ) (he : e < 64)
    (h : ids (ix2 ⟨b.val * 128 + p.val, by omega⟩ 0) = BitVec.ofNat 32 e) :
    (∑ f : Fin 1024, ((∑ q : Fin 128, (if q.val < p.val then 1 else 0) * isHot ids q f)
      + ∑ c : Fin 16, (if c.val < f.val / 64 then 1 else 0) * ∑ q : Fin 128, isHot ids q ⟨c.val * 64 + f.val % 64, by omega⟩) * isHot ids p f
      * if f.val / 64 = b.val then 1 else 0) = earlier ids ⟨b.val * 128 + p.val, by omega⟩ := by
  have at_block : ∀ (c : Fin 16) (q : Fin 128), isHot ids q ⟨c.val * 64 + e, by omega⟩ = if ids (ix2 ⟨c.val * 128 + q.val, by omega⟩ 0) = BitVec.ofNat 32 e then 1 else 0 := by
    intro c q
    unfold isHot
    have h1 : (c.val * 64 + e) / 64 = c.val := by omega
    have h2 : (c.val * 64 + e) % 64 = e := by omega
    simp only [h1, h2]
  rw [Finset.sum_eq_single (⟨b.val * 64 + e, by omega⟩ : Fin 1024) (fun f _ hf => ?_) (fun h => absurd (Finset.mem_univ _) h)]
  · have h1 : (b.val * 64 + e) / 64 = b.val := by omega
    have h2 : (b.val * 64 + e) % 64 = e := by omega
    simp only [h1, h2, at_block, if_true, mul_one]
    rw [if_pos h, mul_one]
    unfold earlier
    rw [h, by_blocks]
    refine (two_parts (fun c q => if ids (ix2 ⟨c.val * 128 + q.val, by omega⟩ 0) = BitVec.ofNat 32 e then 1 else 0) b p).trans ?_
    refine Finset.sum_congr rfl fun c _ => Finset.sum_congr rfl fun q _ => ?_
    rw [ite_and, ite_mul, one_mul, zero_mul]
  · by_cases hb : f.val / 64 = b.val
    · have : isHot ids p f = 0 := by
        unfold isHot
        rw [if_neg]
        intro hh
        simp only [hb] at hh
        rw [h] at hh
        have := (ofNat_inj (by omega) (by omega)).mp hh
        exact hf (Fin.ext (by simp only; omega))
      rw [this, mul_zero, zero_mul]
    · rw [if_neg hb, mul_zero]

/-- The kernel's rank of a token whose expert is numbered below 64. -/
theorem rank_at (ids : Vec Ideal S2048x1 .i32) (t : Fin 2048) (e : ℕ) (he : e < 64) (h : ids (ix2 t 0) = BitVec.ofNat 32 e) :
    rank (F := Ideal) ids (ix2 t 0) = BitVec.ofNat 32 (earlier ids t) := by
  have ht : (⟨t.val / 128 * 128 + t.val % 128, by omega⟩ : Fin 2048) = t := Fin.ext (by simp only; omega)
  have hc := count_eq ids ⟨t.val % 128, by omega⟩ ⟨t.val / 128, by omega⟩ e he (by simp only [ht]; exact h)
  simp only [ht] at hc
  rw [rank_eq]
  show Ideal.fptosi 32 (column (places (blockSums ids)) (ix2 t 0)) = _
  rw [column_at, counted]
  rw [hc, real_word (by have := earlier_le ids t; omega)]

end Cert.Exchange

end
-- ==== Proof.Slots.lean ====
/-
The slot of a token, and the row of `x` a device picks for each of its own slots.
-/
module

public import proofs.«01_k».proof.Proof.Ranks
public import Idealize.ShloMosaic.Lib.Pointwise

@[expose] public section

noncomputable section

namespace Cert.Exchange

open Cert.KernelIdeal Cert.KernelIdeal.Gen
open Idealize.ShloMosaic Idealize.ShloMosaic.TcCoe
open scoped BigOperators

set_option maxRecDepth 16384

theorem fits_at (ids : Vec Ideal S2048x1 .i32) (t : Fin 2048) : fits (F := Ideal) ids (ix2 t 0) = IntOp.cmpi .slt (rank (F := Ideal) ids (ix2 t 0)) 25#32 := rfl

/-- The slot of the token of rank `n` at expert `e`, seen from the device numbered `c`. -/
def place (c e n : ℕ) : ℕ := (e / 4 + 16 - c) % 16 * 128 + e % 4 * 32 + n

/-- The slot the kernel computes: −1 for a token past the capacity. -/
theorem slot_at (me : BitVec 32) (ids : Vec Ideal S2048x1 .i32) (t : Fin 2048) (c e : ℕ) (hc : c < 16) (he : e < 64) (hme : me = BitVec.ofNat 32 c)
    (h : ids (ix2 t 0) = BitVec.ofNat 32 e) : slot (F := Ideal) me ids (ix2 t 0) =
      if earlier ids t < 25 then BitVec.ofNat 32 (place c e (earlier ids t)) else 4294967295#32 := by
  have hn := earlier_le ids t
  pointwise [slot, k0_pay27, k0_pay25, k0_pay26, k0_pay1]
  have hq := quotient_small (n := e) (d := 4) (by omega) (by norm_num) (by norm_num)
    (sign := Scalar.subi (Scalar.extui (Scalar.cmpi .sgt 4#32 0#32)) (Scalar.extui (Scalar.cmpi .slt 4#32 0#32))) (by decide)
  have hm : IntOp.remsi .vector (BitVec.ofNat 32 e) 4#32 = BitVec.ofNat 32 (e % 4) := remsi_small _ (by omega) (by norm_num) (by norm_num)
  have hd : IntOp.addi (IntOp.subi (BitVec.ofNat 32 (e / 4)) (BitVec.ofNat 32 c)) 16#32 = BitVec.ofNat 32 (e / 4 + 16 - c) := by
    apply BitVec.eq_of_toNat_eq
    rw [toNat_small (by omega)]
    simp only [IntOp.addi, IntOp.subi, BitVec.toNat_add, BitVec.toNat_sub, BitVec.toNat_ofNat]
    omega
  have hw : IntOp.remsi .vector (BitVec.ofNat 32 (e / 4 + 16 - c)) 16#32 = BitVec.ofNat 32 ((e / 4 + 16 - c) % 16) :=
    remsi_small _ (by omega) (by norm_num) (by norm_num)
  have hf : IntOp.cmpi .slt (BitVec.ofNat 32 (earlier ids t)) 25#32 = BitVec.ofBool (decide (earlier ids t < 25)) := slt_small (by omega) (by norm_num)
  rw [fits_at, rank_at ids t e he h, h, hme, hf]
  refine (congrArg (fun z => Scalar.select (BitVec.ofBool (decide (earlier ids t < 25))) (IntOp.addi (IntOp.addi
    (IntOp.muli (IntOp.remsi .vector (IntOp.addi (IntOp.subi z (BitVec.ofNat 32 c)) 16#32) 16#32) 128#32)
    (IntOp.muli (IntOp.remsi .vector (BitVec.ofNat 32 e) 4#32) 32#32)) (BitVec.ofNat 32 (earlier ids t))) 4294967295#32) hq).trans ?_
  simp only [hd, hw, hm]
  by_cases hlt : earlier ids t < 25
  · rw [if_pos hlt, decide_eq_true hlt]
    show IntOp.addi (IntOp.addi (IntOp.muli _ _) (IntOp.muli _ _)) _ = _
    apply BitVec.eq_of_toNat_eq
    unfold place
    rw [toNat_small (by omega)]
    simp only [IntOp.addi, IntOp.muli, BitVec.toNat_add, BitVec.toNat_mul, BitVec.toNat_ofNat]
    omega
  · rw [if_neg hlt, decide_eq_false hlt]; rfl

/-- Later tokens of an expert have higher ranks. -/
theorem earlier_lt (ids : Vec Ideal S2048x1 .i32) {u t : Fin 2048} (hut : u.val < t.val) (h : ids (ix2 u 0) = ids (ix2 t 0)) : earlier ids u < earlier ids t := by
  unfold earlier
  refine Finset.sum_lt_sum (fun v _ => ?_) ⟨u, Finset.mem_univ u, ?_⟩
  · by_cases hv : v.val < u.val ∧ ids (ix2 v 0) = ids (ix2 u 0)
    · rw [if_pos hv, if_pos ⟨by omega, hv.2.trans h⟩]
    · rw [if_neg hv]; exact Nat.zero_le _
  · rw [if_neg (fun hv => lt_irrefl _ hv.1), if_pos ⟨hut, h⟩]; exact Nat.one_pos

theorem earlier_inj (ids : Vec Ideal S2048x1 .i32) {u t : Fin 2048} (h : ids (ix2 u 0) = ids (ix2 t 0)) (hr : earlier ids u = earlier ids t) : u = t := by
  rcases lt_trichotomy u.val t.val with hlt | heq | hgt
  · exact absurd hr (earlier_lt ids hlt h).ne
  · exact Fin.ext heq
  · exact absurd hr (earlier_lt ids hgt h.symm).ne'

/-- The mask that says a token lies in a slot. -/
theorem slot_mask (me : BitVec 32) (ids : Vec Ideal S2048x1 .i32) (t : Fin 2048) (c e : ℕ) (hc : c < 16) (he : e < 64) (hme : me = BitVec.ofNat 32 c)
    (h : ids (ix2 t 0) = BitVec.ofNat 32 e) (g : ℕ) (hg : g < 2048) : IntOp.cmpi .eq (slot (F := Ideal) me ids (ix2 t 0)) (BitVec.ofNat 32 g) =
      BitVec.ofBool (decide (earlier ids t < 25 ∧ place c e (earlier ids t) = g)) := by
  have hn := earlier_le ids t
  rw [slot_at me ids t c e hc he hme h]
  by_cases hlt : earlier ids t < 25
  · rw [if_pos hlt, eq_small (by unfold place; omega) (by omega)]
    simp only [hlt, true_and]
  · rw [if_neg hlt, decide_eq_false (fun hh => hlt hh.1)]
    show BitVec.ofBool (_ == _) = BitVec.ofBool false
    congr 1
    rw [beq_eq_false_iff_ne]
    intro hh
    have := congrArg BitVec.toNat hh
    rw [toNat_small (n := g) (by omega)] at this
    have h2 : (4294967295#32).toNat = 4294967295 := rfl
    omega

/-- A slot of the device that holds the expert determines the token. -/
theorem in_slot (ids : Vec Ideal S2048x1 .i32) (ex : Fin 2048 → ℕ) (hex : ∀ u, ex u < 64) (hids : ∀ u, ids (ix2 u 0) = BitVec.ofNat 32 (ex u)) (t : Fin 2048)
    (hn : earlier ids t < 25) (u : Fin 2048) : (earlier ids u < 25 ∧ place (ex t / 4) (ex u) (earlier ids u) = ex t % 4 * 32 + earlier ids t) ↔ u = t := by
  have ht := hex t
  have hu := hex u
  constructor
  · rintro ⟨h1, h2⟩
    have h3 : ex u = ex t ∧ earlier ids u = earlier ids t := by
      unfold place at h2
      generalize earlier ids u = a at *
      generalize earlier ids t = b at *
      generalize ex u = c at *
      generalize ex t = d at *
      omega
    exact earlier_inj ids (by rw [hids, hids, h3.1]) h3.2
  · rintro rfl
    exact ⟨hn, by unfold place; omega⟩

/-- The row a device picks for one of its own slots is the row of the token that lies there. -/
theorem picked_at (me : BitVec 32) (ids : Vec Ideal S2048x1 .i32) (x : Vec Ideal S2048x512 .bf16) (ex : Fin 2048 → ℕ) (hex : ∀ u, ex u < 64)
    (hids : ∀ u, ids (ix2 u 0) = BitVec.ofNat 32 (ex u)) (t : Fin 2048) (hme : me = BitVec.ofNat 32 (ex t / 4)) (hn : earlier ids t < 25) (r : Fin 128)
    (hr : r.val = ex t % 4 * 32 + earlier ids t) (k : Fin 512) :
    picked (F := Ideal) me ids x (ix2 r k) = x (ix2 t k) := by
  pointwise [picked, k0_pay28]
  have ht := hex t
  have hmask : ∀ u, IntOp.cmpi .eq (slot (F := Ideal) me ids (ix2 u 0)) (BitVec.ofNat 32 r.val) = BitVec.ofBool (decide (u = t)) := by
    intro u
    rw [slot_mask me ids u (ex t / 4) (ex u) (by omega) (hex u) hme (hids u) r.val (by omega), hr]
    exact congrArg BitVec.ofBool (decide_eq_decide.mpr (in_slot ids ex hex hids t hn u))
  have hsum : ∀ u, IntOp.cmpi .eq (k0_pay27 me (k0_pay1 ids) (rank ids) (fits ids) 4#32 (k0_pay25 (k0_pay1 ids)) (k0_pay26 (k0_pay1 ids))
      (Scalar.extui (Scalar.cmpi .sgt 4#32 0#32)) (Scalar.extui (Scalar.cmpi .slt 4#32 0#32)) (ix2 u 0)) (BitVec.ofNat 32 r.val) = BitVec.ofBool (decide (u = t)) := hmask
  simp only [hsum, mask_real, decide_eq_true_eq]
  rw [Finset.sum_eq_single t (fun u _ hu => by rw [if_neg hu, Nat.cast_zero, zero_mul]) (fun h => absurd (Finset.mem_univ _) h), if_pos rfl, Nat.cast_one, one_mul]

end Cert.Exchange

end
-- ==== Proof.Products.lean ====
/-
The kernel's result, entry by entry: the product of the token's row with its expert's weights, or zero for a token past the capacity.
-/
module

public import proofs.«01_k».proof.Proof.Slots
public import Idealize.ShloMosaic.Lib.Pointwise

@[expose] public section

noncomputable section

namespace Cert.Exchange

open Cert.KernelIdeal Cert.KernelIdeal.Gen
open Idealize.ShloMosaic Idealize.ShloMosaic.TcCoe
open scoped BigOperators

set_option maxRecDepth 16384

/-- A piece of the staged weights, read at an index. -/
theorem piece_at (o : Fin 3 → ℕ) (inb : ∀ k, o k + S1x512x1024.size k ≤ S4x512x1024.size k) (w : Vec Ideal S4x512x1024 .bf16) (i : S1x512x1024.Idx) (j : S4x512x1024.Idx)
    (hj : ∀ b, (j b).val = o b + (i b).val) : (Memref.whole cc0_stg2_0 : Memref sig .tc .vmem S4x512x1024 .bf16).view.readAt (Elt Ideal)
      (Rect.unit (s := S4x512x1024) o S1x512x1024.size inb).toLoadRect w i = w j := by
  show w _ = w j
  refine congrArg w (funext fun b => Fin.ext ((?_ : _ = o b + (i b).val).trans (hj b).symm))
  show o b + 1 * (i b).val = _
  rw [one_mul]

theorem weights_at (w : Vec Ideal S4x512x1024 .bf16) (e : Fin 4) (k : Fin 512) (h : Fin 1024) : weights w e.val (ix3 0 k h) = w (ix3 e k h) := by
  have hj : ∀ b : Fin 3, ((ix3 e k h : S4x512x1024.Idx) b).val = (![e.val, 0, 0] : Fin 3 → ℕ) b + ((ix3 0 k h : S1x512x1024.Idx) b).val := by
    intro b
    match b with
    | ⟨0, _⟩ => rfl
    | ⟨1, _⟩ => exact (Nat.zero_add _).symm
    | ⟨2, _⟩ => exact (Nat.zero_add _).symm
  match e with
  | ⟨0, _⟩ => exact piece_at _ _ w _ _ hj
  | ⟨1, _⟩ => exact piece_at _ _ w _ _ hj
  | ⟨2, _⟩ => exact piece_at _ _ w _ _ hj
  | ⟨3, _⟩ => exact piece_at _ _ w _ _ hj

theorem product_at (me : BitVec 32) (ids : Vec Ideal S2048x1 .i32) (x : Vec Ideal S2048x512 .bf16) (w : Vec Ideal S4x512x1024 .bf16) (e : Fin 4) (r : Fin 32) (h : Fin 1024) :
    product (F := Ideal) me ids x w e.val (ix2 r h) = ∑ k : Fin 512, picked (F := Ideal) me ids x (ix2 ⟨e.val * 32 + r.val, by omega⟩ k) * w (ix3 e k h) := by
  simp only [← weights_at w e]
  match e with
  | ⟨0, _⟩ =>
    show k0_pay29 _ _ _ _ _ _ _ _ _ _ _ _ = _
    pointwise [k0_pay29]
    rfl
  | ⟨1, _⟩ =>
    show k0_pay30 _ _ _ = _
    pointwise [k0_pay30]
  | ⟨2, _⟩ =>
    show k0_pay31 _ _ _ = _
    pointwise [k0_pay31]
  | ⟨3, _⟩ =>
    show k0_pay32 _ _ _ = _
    pointwise [k0_pay32]

theorem word_eq (c : Dev nD) : word c = BitVec.ofNat 32 c.val := by
  revert c; decide

/-- The parts of a slot's number: how far ahead the expert's device is, which of its experts, and the rank. -/
theorem place_parts {c e n : ℕ} (hc : c < 16) (he : e < 64) (hn : n < 25) :
    place c e n < 2048 ∧ (c + place c e n / 128) % 16 = e / 4 ∧ place c e n / 32 % 4 = e % 4 ∧ place c e n % 32 = n := by
  unfold place
  refine ⟨?_, ?_, ?_, ?_⟩ <;> omega

/-- A sum that a mask cuts down to one term. -/
theorem sum_mask {n : ℕ} (a : ℕ) (i : Fin n) (ha : a = i.val) (f : Fin n → EReal) : ∑ g : Fin n, ((if a = g.val then 1 else 0 : ℕ) : EReal) * f g = f i := by
  subst ha
  refine (Finset.sum_eq_single i (fun g _ hg => ?_) (fun h => absurd (Finset.mem_univ _) h)).trans ?_
  · rw [if_neg (fun h => hg (Fin.ext h.symm)), Nat.cast_zero, zero_mul]
  · rw [if_pos rfl, Nat.cast_one, one_mul]

/-- A sum that a mask cuts down to nothing. -/
theorem sum_off {n : ℕ} {p : Prop} [Decidable p] (hp : ¬p) (a : ℕ) (f : Fin n → EReal) :
    ∑ g : Fin n, ((if p ∧ a = g.val then 1 else 0 : ℕ) : EReal) * f g = 0 :=
  Finset.sum_eq_zero fun g _ => by rw [if_neg (fun h => hp h.1), Nat.cast_zero, zero_mul]

theorem at32_eq (r : ℕ) (n : Fin 32) (h : Fin 1024) (hr : r % 32 = n.val) : at32 r h = ix2 n h := by
  funext b
  match b with
  | ⟨0, _⟩ => exact Fin.ext hr
  | ⟨1, _⟩ => rfl

/-- The buffer at a slot: the row of the product of the device that holds the expert. -/
theorem full_at (m : (ℓ : Loc nD τ sig) → Buf (Elt Ideal) ℓ) (c d : Dev nD) (g : Fin 2048) (e : Fin 4) (n : Fin 32) (h : Fin 1024)
    (hd : (c.val + g.val / 128) % 16 = d.val) (he : g.val / 32 % 4 = e.val) (hn : g.val % 32 = n.val) :
    full m c (ix2 g h) = product (word d) (ids m d) (xs m d) (ws m d) e.val (ix2 n h) := by
  show product (word (ahead c (g.val / 128))) (ids m (ahead c (g.val / 128))) (xs m (ahead c (g.val / 128))) (ws m (ahead c (g.val / 128)))
    (g.val / 32 % 4) (at32 g.val h) = _
  rw [show ahead c (g.val / 128) = d from Fin.ext hd, he, at32_eq g.val n h hn]

/-- The kernel's result on a device, when every device has the same tokens: each token's row times the weights of its
    expert, and zero for a token past the capacity. -/
theorem outAt_eq (m : (ℓ : Loc nD τ sig) → Buf (Elt Ideal) ℓ) (c : Dev nD) (J : Vec Ideal S2048x1 .i32) (X : Vec Ideal S2048x512 .bf16)
    (hJ : ∀ d, ids m d = J) (hX : ∀ d, xs m d = X) (ex : Fin 2048 → ℕ) (hex : ∀ u, ex u < 64) (hids : ∀ u, J (ix2 u 0) = BitVec.ofNat 32 (ex u))
    (t : Fin 2048) (h : Fin 1024) :
    outAt (F := Ideal) m c (ix2 t h) = if earlier J t < 25 then
      ∑ k : Fin 512, X (ix2 t k) * (ws m (⟨ex t / 4, by have := hex t; show _ < 16; omega⟩ : Dev nD) : Vec Ideal S4x512x1024 .bf16) (ix3 ⟨ex t % 4, by omega⟩ k h) else 0 := by
  have ht := hex t
  have hc : c.val < 16 := c.isLt
  have hmask : ∀ g : Fin 2048, IntOp.cmpi .eq (slot (F := Ideal) (word c) (ids m c) (ix2 t 0)) (BitVec.ofNat 32 g.val) =
      BitVec.ofBool (decide (earlier J t < 25 ∧ place c.val (ex t) (earlier J t) = g.val)) := by
    intro g
    rw [hJ]
    exact slot_mask (word c) J t c.val (ex t) hc ht (word_eq c) (hids t) g.val g.isLt
  unfold outAt
  pointwise [k0_pay34, k0_pay33]
  simp only [hmask, mask_real, decide_eq_true_eq]
  by_cases hlt : earlier J t < 25
  · rw [if_pos hlt]
    simp only [hlt, true_and]
    clear hmask
    obtain ⟨n, hn⟩ : ∃ n, n = earlier J t := ⟨_, rfl⟩
    rw [← hn]
    rw [← hn] at hlt
    obtain ⟨hp, hd0, he, hr0⟩ := place_parts hc ht hlt
    refine (sum_mask _ ⟨_, hp⟩ rfl _).trans ?_
    rw [full_at m c ⟨ex t / 4, by show _ < 16; omega⟩ ⟨_, hp⟩ ⟨ex t % 4, by omega⟩ ⟨n, by omega⟩ h hd0 he hr0, hJ, hX, product_at]
    refine Finset.sum_congr rfl fun k _ => ?_
    rw [picked_at _ J X ex hex hids t (word_eq _) (hn ▸ hlt) _ (by rw [← hn]) k]
  · rw [if_neg hlt]
    exact sum_off hlt _ _

end Cert.Exchange

end
-- ==== Proof.Refers.lean ====
/-
The reference, entry by entry.
-/
module

public import proofs.«01_k».proof.Proof.Ranks
public import Idealize.ShloMosaic.Lib.Pointwise
public import Idealize.ShloMosaic.Lib.Routing.Ops
public import proofs.«01_k».proof.Proof.Gen.ReferenceIdeal.Run

@[expose] public section

noncomputable section

namespace Cert.Exchange

open Cert.ReferenceIdeal Cert.ReferenceIdeal.Gen
open Idealize.ShloMosaic Idealize.ShloMosaic.TcCoe
open scoped BigOperators

set_option maxRecDepth 16384

/-- The number of each token's expert, in one row. -/
def expert (J : IVec S2048x1 32) : IVec S2048 32 := shapeCast _ J shapeCasts_S2048x1_S2048

/-- Each token's rank, as the reference counts it. -/
def refRank (J : IVec S2048x1 32) : IVec S2048 32 :=
  Host.reduce IntOp.addi (extui 32 (andi (cmpi .eq (broadcastInDim S2048x2048 ![0, 1] bcast_S1x2048_S2048x2048_0_1 (broadcastInDim S1x2048 ![1] bcast_S2048_S1x2048_1 (expert J)))
      (broadcastInDim S2048x2048 ![0, 1] bcast_S2048x1_S2048x2048_0_1 (broadcastInDim S2048x1 ![0] bcast_S2048_S2048x1_0 (expert J))))
    (cmpi .slt (broadcastInDim S2048x2048 ![0, 1] bcast_S1x2048_S2048x2048_0_1 (broadcastInDim S1x2048 ![1] bcast_S2048_S1x2048_1 (iotaInDim S2048 32 0)))
      (broadcastInDim S2048x2048 ![0, 1] bcast_S2048x1_S2048x2048_0_1 (broadcastInDim S2048x1 ![0] bcast_S2048_S2048x1_0 (iotaInDim S2048 32 0))))) natLt_1_32)
    (constantI S_ 32 0#32) reducesTo_S2048x2048_S2048_d1 h_S_

/-- Each token's row of weights: the weights of its expert. -/
def refWeights (J : IVec S2048x1 32) (W : Vec Ideal S64x512x1024 .bf16) : FVec Ideal S2048x512x1024 .bf16 :=
  Host.gather gather_S64x512x1024_S2048x1_S2048x512x1024_12_0_n_n_0_1_15121024 W (broadcastInDim S2048x1 ![0] bcast_S2048_S2048x1_0
    (select (cmpi .slt (expert J) (broadcastInDim S2048 ![] bcast_S_S2048 (constantI S_ 32 0#32))) (addi (expert J) (broadcastInDim S2048 ![] bcast_S_S2048 (constantI S_ 32 64#32))) (expert J)))

/-- The reference's result. -/
def refOut (X : FVec Ideal S2048x512 .bf16) (J : IVec S2048x1 32) (W : FVec Ideal S64x512x1024 .bf16) : FVec Ideal S2048x1024 .bf16 :=
  truncf .bf16 (select (broadcastInDim S2048x1024 ![0, 1] bcast_S2048x1_S2048x1024_0_1 (broadcastInDim S2048x1 ![0] bcast_S2048_S2048x1_0
      (cmpi .slt (refRank J) (broadcastInDim S2048 ![] bcast_S_S2048 (constantI S_ 32 25#32)))))
    (Host.dotGeneral dot_S2048x512_S2048x512x1024_S2048x1024_1_1_n_2_0_0 none (extf .f32 X bitsLt_bf16_f32) (extf .f32 (refWeights J W) bitsLt_bf16_f32))
    (broadcastInDim S2048x1024 ![] bcast_S_S2048x1024 (id (constant S_ .f32 0x00000000#32)))) bitsLt_bf16_f32

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = refOut (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := Value.run m ρ

/-- Token `u` is an earlier one of token `t`'s expert. -/
def Fellow (J : IVec S2048x1 32) (t : Fin 2048) (u : ℕ) : Prop := ∃ h : u < 2048, u < t.val ∧ J (ix2 ⟨u, h⟩ 0) = J (ix2 t 0)

theorem refRank_at (J : IVec S2048x1 32) (t : Fin 2048) : refRank J (ix1 t) = BitVec.ofNat 32 (earlier J t) := by
  classical
  refine (Routing.reduce_count (n := 2048) (m := 2048) (by norm_num) _ natLt_1_32 reducesTo_S2048x2048_S2048_d1 h_S_ t
    (Fellow J t) (fun q => ?_)).trans ?_
  · pointwise [expert]
    show IntOp.andi (IntOp.cmpi .eq (J (ix2 q 0)) (J (ix2 t 0))) (IntOp.cmpi .slt (BitVec.ofNat 32 q.val) (BitVec.ofNat 32 t.val)) = 1#1 ↔ _
    rw [slt_small (by omega) (by omega)]
    show BitVec.ofBool (J (ix2 q 0) == J (ix2 t 0)) &&& BitVec.ofBool (decide (q.val < t.val)) = 1#1 ↔ _
    rw [beq_eq_decide]
    have : ∀ (a b : Prop) [Decidable a] [Decidable b], BitVec.ofBool (decide a) &&& BitVec.ofBool (decide b) = 1#1 ↔ b ∧ a := by
      intro a b _ _
      by_cases ha : a <;> by_cases hb : b <;> simp [ha, hb]
    rw [this]
    exact ⟨fun hh => ⟨q.isLt, hh⟩, fun ⟨_, hh⟩ => hh⟩
  · refine congrArg (BitVec.ofNat 32) ?_
    rw [← Routing.card_filter_fin]
    unfold earlier
    rw [Finset.card_filter]
    refine Finset.sum_congr rfl fun u _ => if_congr ⟨fun ⟨_, hh⟩ => hh, fun hh => ⟨u.isLt, hh⟩⟩ rfl rfl

theorem wrapped (J : IVec S2048x1 32) (t : Fin 2048) (e : Fin 64) (he : J (ix2 t 0) = BitVec.ofNat 32 e.val) :
    broadcastInDim S2048x1 ![0] bcast_S2048_S2048x1_0
    (select (cmpi .slt (expert J) (broadcastInDim S2048 ![] bcast_S_S2048 (constantI S_ 32 0#32))) (addi (expert J) (broadcastInDim S2048 ![] bcast_S_S2048 (constantI S_ 32 64#32))) (expert J))
    (ix2 t 0) = BitVec.ofNat 32 e.val := by
  pointwise [expert]
  rw [he, slt_zero (by omega)]
  rfl

theorem gather_at (W : FVec Ideal S64x512x1024 .bf16) (idx : IVec S2048x1 32) (t : Fin 2048) (k : Fin 512) (h : Fin 1024) (e : Fin 64)
    (he : idx (ix2 t 0) = BitVec.ofNat 32 e.val) : Host.gather gather_S64x512x1024_S2048x1_S2048x512x1024_12_0_n_n_0_1_15121024 W idx (ix3 t k h) = W (ix3 e k h) := by
  unfold Host.gather
  refine congrArg W (funext fun a => Fin.ext ?_)
  match a with
  | ⟨0, _⟩ =>
    refine (congrArg (fun w : BitVec 32 => min w.toInt.toNat (64 - 1) + 0 + 0) ((congrArg idx (funext fun b => ?_)).trans he)).trans ?_
    · match b with
      | ⟨0, _⟩ => rfl
      | ⟨1, _⟩ => rfl
    · show min (BitVec.ofNat 32 e.val).toInt.toNat (64 - 1) + 0 + 0 = e.val
      rw [toInt_small (by omega)]
      omega
  | ⟨1, _⟩ =>
    show 0 + 0 + k.val = k.val
    omega
  | ⟨2, _⟩ =>
    show 0 + 0 + h.val = h.val
    omega

theorem ref_at (X : FVec Ideal S2048x512 .bf16) (J : IVec S2048x1 32) (W : FVec Ideal S64x512x1024 .bf16) (t : Fin 2048) (h : Fin 1024) (e : Fin 64)
    (he : J (ix2 t 0) = BitVec.ofNat 32 e.val) :
    refOut X J W (ix2 t h) = if earlier J t < 25 then ∑ k : Fin 512, X (ix2 t k) * W (ix3 e k h) else 0 := by
  have hw : ∀ k : Fin 512, refWeights J W (ix3 t k h) = W (ix3 e k h) := fun k => gather_at W _ t k h e (wrapped J t e he)
  have hn := earlier_le J t
  have hlt : IntOp.cmpi .slt (BitVec.ofNat 32 (earlier J t)) 25#32 = BitVec.ofBool (decide (earlier J t < 25)) := slt_small (by omega) (by norm_num)
  pointwise [refOut]
  rw [refRank_at, hlt]
  simp only [hw]
  by_cases h25 : earlier J t < 25
  · rw [if_pos h25, decide_eq_true h25]; rfl
  · rw [if_neg h25, decide_eq_false h25]
    show constant (F := Ideal) S_ .f32 0x00000000#32 ix0 = 0
    pointwise

end Cert.Exchange

end
-- ==== Proof.Value.lean ====
/-
The kernel's result is the reference's, on every device.
-/
module

public import proofs.«01_k».proof.Proof.Frames
public import proofs.«01_k».proof.Proof.Products
public import proofs.«01_k».proof.Proof.Refers
public import proofs.«01_k».proof.Pre_experts_exist_KernelIdeal
public import proofs.«01_k».proof.Pre_experts_exist_ReferenceIdeal
public import Idealize.ShloMosaic.Lib.ReduceAll
public import Idealize.ShloMosaic.Lib.Layout

@[expose] public section

noncomputable section

namespace Cert.Exchange

open Cert.KernelIdeal Cert.KernelIdeal.Gen
open Idealize.ShloMosaic Idealize.ShloMosaic.TcCoe Idealize.SL.Sem
open scoped BigOperators

set_option maxRecDepth 16384

/-- The side conditions under which the precondition is stated, for the kernel's arguments. -/
theorem preFacts : Cert.Pre_experts_exist_KernelIdeal.Facts := ⟨by decide, by decide, by decide⟩

/-- And for the reference's. -/
theorem preFacts_reference : Cert.Pre_experts_exist_ReferenceIdeal.Facts := ⟨by decide, by decide, by decide⟩

/-- What the precondition says of the tokens: each one's expert is numbered below 64. -/
theorem expert_exists [Cert.Pre_experts_exist_KernelIdeal.Facts] (X : Vec Ideal S2048x512 .bf16) (R : Vec Ideal ⟨2, ![512, 64]⟩ .bf16) (J : Vec Ideal S2048x1 .i32) (W : Vec Ideal S4x512x1024 .bf16)
    (h : Cert.Pre_experts_exist_KernelIdeal.fn (F := Ideal) X R J W = fun _ => 1#1) (u : Fin 2048) : ∃ e : ℕ, e < 64 ∧ J (ix2 u 0) = BitVec.ofNat 32 e := by
  have h0 := congrFun h ix0
  haveI : Subsingleton Cert.Pre_experts_exist_KernelIdeal.S_.Idx := ⟨fun a b => funext fun i => i.elim0⟩
  have hu : IntOp.andi (IntOp.cmpi .sge (J (ix2 u 0)) 0#32) (IntOp.cmpi .slt (J (ix2 u 0)) 64#32) = 1#1 :=
    Host.reduce_andi_all _ _ _ _ ix0 h0 (ix2 u 0)
  generalize J (ix2 u 0) = w at hu ⊢
  change BitVec 32 at w
  have hb : (0 : ℤ) ≤ w.toInt ∧ w.toInt < 64 := by
    simp only [IntOp.cmpi, IntOp.andi, BitVec.slt, BitVec.sle] at hu
    have h64 : (64#32).toInt = 64 := rfl
    have hz : (0#32).toInt = 0 := rfl
    rw [h64, hz] at hu
    by_cases h1 : (0 : ℤ) ≤ w.toInt <;> by_cases h2 : w.toInt < 64 <;> simp_all
  refine ⟨w.toNat, ?_, BitVec.eq_of_toNat_eq (by rw [BitVec.toNat_ofNat]; exact (Nat.mod_eq_of_lt w.isLt).symm)⟩
  have := BitVec.toInt_eq_toNat_cond w
  have hw := w.isLt
  split at this <;> omega

/-- A device's weights are four experts of the whole array. -/
theorem block_at (W : (⟨3, ![64, 512, 1024]⟩ : Shape).Idx → Elt Ideal .bf16) (d : Fin 16) (e : Fin 4) (g : Fin 64) (hg : g.val = d.val * 4 + e.val) (k : Fin 512) (h : Fin 1024) :
    Layout.block ⟨3, ![4, 512, 1024]⟩ ⟨3, ![64, 512, 1024]⟩ 0 16 d W (by decide) (ix3 e k h) = W (ix3 g k h) := by
  rw [Layout.block_apply]
  refine congrArg W (funext fun b => Fin.ext ?_)
  match b with
  | ⟨0, _⟩ => exact hg.symm
  | ⟨1, _⟩ => rfl
  | ⟨2, _⟩ => rfl

/-- Two sums, each kept for the tokens that found room, agree when their terms do. -/
theorem kept_sum {p : Prop} [Decidable p] {f g : Fin 512 → EReal} (h : ∀ k, f k = g k) : (if p then ∑ k, f k else 0) = if p then ∑ k, g k else 0 := by
  rw [funext h]

/-- On every device the kernel computes the reference's result. -/
theorem same_result (m : (ℓ : Loc nD τ sig) → Buf (Elt Ideal) ℓ) (X : Vec Ideal S2048x512 .bf16) (J : Vec Ideal S2048x1 .i32) (W : FVec Ideal ⟨3, ![64, 512, 1024]⟩ .bf16)
    (hX : ∀ c : Dev nD, m ((c : Thread nD τ).loc main_arg0) = X) (hJ : ∀ c : Dev nD, m ((c : Thread nD τ).loc main_arg2) = J)
    (hW : ∀ c : Dev nD, m ((c : Thread nD τ).loc main_arg3) = Layout.block ⟨3, ![4, 512, 1024]⟩ ⟨3, ![64, 512, 1024]⟩ 0 16 c W (by decide))
    (hex : ∀ u, ∃ e : ℕ, e < 64 ∧ J (ix2 u 0) = BitVec.ofNat 32 e) (c : Dev nD) : outAt (F := Ideal) m c = refOut X J W := by
  choose ex hlt hids using hex
  funext i
  obtain ⟨t, h, rfl⟩ : ∃ (t : Fin 2048) (h : Fin 1024), i = ix2 t h := ⟨i 0, i 1, eq_ix2 i⟩
  have ht := hlt t
  rw [outAt_eq m c J X (fun d => (ids_eq m d).trans (hJ d)) (fun d => (xs_eq m d).trans (hX d)) ex hlt hids t h]
  refine ((kept_sum fun k => ?_).trans (ref_at X J W t h ⟨ex t, ht⟩ (hids t)).symm)
  rw [ws_eq, hW]
  exact congrArg (X (ix2 t k) * ·) (block_at W _ _ ⟨ex t, ht⟩ (by show ex t = ex t / 4 * 4 + ex t % 4; omega) k h)

/-- The kernel's frame holds of all arguments, so of those that satisfy the precondition. -/
theorem frame_ideal_pre : @Cert.quiescent_KernelIdeal_pre_experts_exist_KernelIdeal Cert.KernelIdeal.Gen.facts preFacts := fun m ρ _ => frame_ideal m ρ trivial

/-- So does the reference's. -/
theorem frame_reference_pre : @Cert.quiescent_ReferenceIdeal_pre_experts_exist_ReferenceIdeal Cert.ReferenceIdeal.Gen.facts preFacts_reference :=
  fun m ρ _ => frame_reference m ρ trivial

/-- The value claim: where every token's expert exists, each device's result is the whole result of the reference over the whole arrays. -/
theorem value : @Cert.algebraic_KernelIdeal_ReferenceIdeal_pre_experts_exist_KernelIdeal Cert.KernelIdeal.Gen.facts Cert.ReferenceIdeal.Gen.facts preFacts := by
  intro m g m' g' hpre hargs
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run _ _ _).mono (fun r hr c => ?_) (run_main (F := Ideal) m g)
    refine ⟨(hr.1 c).1.trans ?_, (hr.1 c).2⟩
    refine same_result m _ _ _ (fun d => (hargs d).1) (fun d => (hargs d).2.2.1) (fun d => (hargs d).2.2.2) (fun u => ?_) c
    haveI := preFacts
    have h := expert_exists _ _ _ _ (hpre 0) u
    rwa [(hargs 0).2.2.1] at h
  · exact (θ_run _ _ _).mono (fun r hr => hr 0) (ref_run m' g')

end Cert.Exchange

end
-- ==== Proof.lean ====
/-
The claims: the frames of the kernel and of the reference, that the ideal program is the kernel's own text, and that the kernel computes what the reference does.
-/
module

public import proofs.«01_k».proof.Defs
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

/-- Everything that is claimed. -/
theorem claim : Cert.Claim :=
  ⟨Cert.Kernel.Gen.facts, Cert.KernelIdeal.Gen.facts, Cert.ReferenceIdeal.Gen.facts, Cert.Exchange.preFacts, Cert.Exchange.preFacts_reference,
    Cert.Exchange.frame_kernel, Cert.Exchange.frame_ideal, Cert.Exchange.frame_ideal_pre, Cert.Exchange.frame_reference, Cert.Exchange.frame_reference_pre,
    trivial, Cert.Exchange.value⟩

end Cert.Proof

end
